-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16x2048x128 : Shape := ⟨4, ![1, 16, 2048, 128]⟩
abbrev S_ : Shape := ⟨0, ![]⟩

class Facts : Prop where
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_
  h_S_ : 0 < S_.numel

variable [Facts]

def fn {F : FTy → Type} [FloatOps F] (main_arg0 : FVec F S1x16x2048x128 .f32) (main_arg1 : FVec F S1x16x2048x128 .f32) (main_arg2 : FVec F S1x16x2048x128 .f32) : IVec S_ 1 :=
  let main_v0 : FVec F S1x16x2048x128 .f32 := Host.absf main_arg0
  let main_cst : FVec F S_ .f32 := constant S_ .f32 0x7F800000#32
  let main_v1 : FVec F S1x16x2048x128 .f32 := broadcastInDim S1x16x2048x128 ![] bcast_S_S1x16x2048x128 main_cst
  let main_v2 : IVec S1x16x2048x128 1 := cmpf .olt main_v0 main_v1
  let main_c : IVec S_ 1 := constantI S_ 1 1#1
  let main_v3 : IVec S_ 1 := (fun x v => Host.reduce IntOp.andi x v reducesTo_S1x16x2048x128_S_d0_1_2_3 h_S_) main_v2 main_c
  let main_v4 : FVec F S1x16x2048x128 .f32 := Host.absf main_arg1
  let main_cst_0 : FVec F S_ .f32 := constant S_ .f32 0x7F800000#32
  let main_v5 : FVec F S1x16x2048x128 .f32 := broadcastInDim S1x16x2048x128 ![] bcast_S_S1x16x2048x128 main_cst_0
  let main_v6 : IVec S1x16x2048x128 1 := cmpf .olt main_v4 main_v5
  let main_c_1 : IVec S_ 1 := constantI S_ 1 1#1
  let main_v7 : IVec S_ 1 := (fun x v => Host.reduce IntOp.andi x v reducesTo_S1x16x2048x128_S_d0_1_2_3 h_S_) main_v6 main_c_1
  let main_v8 : IVec S_ 1 := andi main_v3 main_v7
  main_v8
-- ==== Kernel.lean ====
abbrev S1x16x2048x128 : Shape := ⟨4, ![1, 16, 2048, 128]⟩
abbrev S16x2048x128 : Shape := ⟨3, ![16, 2048, 128]⟩
abbrev S16x16x16 : Shape := ⟨3, ![16, 16, 16]⟩
abbrev S1x2048x128 : Shape := ⟨3, ![1, 2048, 128]⟩
abbrev S1x16x16 : Shape := ⟨3, ![1, 16, 16]⟩
abbrev S2048x128 : Shape := ⟨2, ![2048, 128]⟩
abbrev S16x128x128 : Shape := ⟨3, ![16, 128, 128]⟩
abbrev S16x128 : Shape := ⟨2, ![16, 128]⟩
abbrev S16x16 : Shape := ⟨2, ![16, 16]⟩
abbrev S16 : Shape := ⟨1, ![16]⟩
abbrev S16x1 : Shape := ⟨2, ![16, 1]⟩
abbrev S16x2 : Shape := ⟨2, ![16, 2]⟩
abbrev S16x3 : Shape := ⟨2, ![16, 3]⟩
abbrev S16x4 : Shape := ⟨2, ![16, 4]⟩
abbrev S16x5 : Shape := ⟨2, ![16, 5]⟩
abbrev S16x6 : Shape := ⟨2, ![16, 6]⟩
abbrev S16x7 : Shape := ⟨2, ![16, 7]⟩
abbrev S16x8 : Shape := ⟨2, ![16, 8]⟩
abbrev S16x9 : Shape := ⟨2, ![16, 9]⟩
abbrev S16x10 : Shape := ⟨2, ![16, 10]⟩
abbrev S16x11 : Shape := ⟨2, ![16, 11]⟩
abbrev S16x12 : Shape := ⟨2, ![16, 12]⟩
abbrev S16x13 : Shape := ⟨2, ![16, 13]⟩
abbrev S16x14 : Shape := ⟨2, ![16, 14]⟩
abbrev S16x15 : Shape := ⟨2, ![16, 15]⟩
abbrev S4096 : Shape := ⟨1, ![4096]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1 : Shape := ⟨1, ![1]⟩

abbrev nBuf : Space → Nat
  | .hbm => 15
  | .vmem => 14
  | .smem => 1
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x128, .f32⟩
  | .hbm, ⟨3, _⟩ => ⟨S16x2048x128, .f32⟩
  | .hbm, ⟨4, _⟩ => ⟨S16x2048x128, .f32⟩
  | .hbm, ⟨5, _⟩ => ⟨S16x2048x128, .f32⟩
  | .hbm, ⟨6, _⟩ => ⟨S16x16x16, .i32⟩
  | .hbm, ⟨7, _⟩ => ⟨S_, .f32⟩
  | .hbm, ⟨8, _⟩ => ⟨S16x2048x128, .f32⟩
  | .hbm, ⟨9, _⟩ => ⟨S16x2048x128, .f32⟩
  | .hbm, ⟨10, _⟩ => ⟨S16x2048x128, .bf16⟩
  | .hbm, ⟨11, _⟩ => ⟨S16x2048x128, .bf16⟩
  | .hbm, ⟨12, _⟩ => ⟨S16x2048x128, .bf16⟩
  | .hbm, ⟨13, _⟩ => ⟨S16x2048x128, .f32⟩
  | .hbm, ⟨14, _⟩ => ⟨S1x16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x16x16, .i32⟩
  | .local _ .vmem, ⟨5, _⟩ => ⟨S1x16x16, .i32⟩
  | .local _ .vmem, ⟨6, _⟩ => ⟨S1x128x128, .bf16⟩
  | .local _ .vmem, ⟨7, _⟩ => ⟨S1x128x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x128x128, .f32⟩
  | .local _ .vmem, ⟨13, _⟩ => ⟨S1x128x128, .f32⟩
  | .local _ .smem, ⟨0, _⟩ => ⟨S4096, .i32⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let v165 : BitVec 32 := Scalar.addi v2 c0_i32
  let v166 : Index := Scalar.indexCast v165
  ![v166.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S1x16x2048x128 : Shape := ⟨4, ![1, 16, 2048, 128]⟩
abbrev S1x16x16x128x128 : Shape := ⟨5, ![1, 16, 16, 128, 128]⟩
abbrev S_ : Shape := ⟨0, ![]⟩
abbrev S1x16x16x128 : Shape := ⟨4, ![1, 16, 16, 128]⟩
abbrev S1x16x16x16 : Shape := ⟨4, ![1, 16, 16, 16]⟩
abbrev S1x16x16 : Shape := ⟨3, ![1, 16, 16]⟩
abbrev S1x16x16x1 : Shape := ⟨4, ![1, 16, 16, 1]⟩
abbrev S16x16x16x1 : Shape := ⟨4, ![16, 16, 16, 1]⟩
abbrev S1 : Shape := ⟨1, ![1]⟩
abbrev S1x1x1x1 : Shape := ⟨4, ![1, 1, 1, 1]⟩
abbrev S16x16x16 : Shape := ⟨3, ![16, 16, 16]⟩
abbrev S16 : Shape := ⟨1, ![16]⟩
abbrev S1x1x1x16 : Shape := ⟨4, ![1, 1, 1, 16]⟩
abbrev S1x16x16x128x16 : Shape := ⟨5, ![1, 16, 16, 128, 16]⟩
abbrev S1x16x2048x16 : Shape := ⟨4, ![1, 16, 2048, 16]⟩
abbrev S1x16x2048x16x128 : Shape := ⟨5, ![1, 16, 2048, 16, 128]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 153
  | .vmem => 0
  | .smem => 0
  | _ => 0

abbrev hbmTy0_0 (i : Nat) : BufTy := match i % 128 with
  | 0 => ⟨S1x16x2048x128, .f32⟩
  | 1 => ⟨S1x16x2048x128, .f32⟩
  | 2 => ⟨S1x16x2048x128, .f32⟩
  | 3 => ⟨S1x16x16x128x128, .f32⟩
  | 4 => ⟨S_, .f32⟩
  | 5 => ⟨S1x16x16x128, .f32⟩
  | 6 => ⟨S_, .f32⟩
  | 7 => ⟨S1x16x16x128, .f32⟩
  | 8 => ⟨S1x16x16x128, .f32⟩
  | 9 => ⟨S1x16x16x128x128, .f32⟩
  | 10 => ⟨S_, .f32⟩
  | 11 => ⟨S1x16x16x128, .f32⟩
  | 12 => ⟨S_, .f32⟩
  | 13 => ⟨S1x16x16x128, .f32⟩
  | 14 => ⟨S1x16x16x128, .f32⟩
  | 15 => ⟨S1x16x16x16, .f32⟩
  | 16 => ⟨S_, .f32⟩
  | 17 => ⟨S1x16x16x16, .f32⟩
  | 18 => ⟨S1x16x16x16, .f32⟩
  | 19 => ⟨S_, .f32⟩
  | 20 => ⟨S1x16x16, .f32⟩
  | 21 => ⟨S_, .f32⟩
  | 22 => ⟨S1x16x16, .f32⟩
  | 23 => ⟨S1x16x16, .f32⟩
  | 24 => ⟨S1x16x16x1, .f32⟩
  | 25 => ⟨S1x16x16x16, .f32⟩
  | 26 => ⟨S1x16x16x16, .f32⟩
  | 27 => ⟨S1x16x16x16, .f32⟩
  | 28 => ⟨S_, .f32⟩
  | 29 => ⟨S1x16x16, .f32⟩
  | 30 => ⟨S1x16x16x1, .f32⟩
  | 31 => ⟨S1x16x16x16, .f32⟩
  | 32 => ⟨S1x16x16x16, .f32⟩
  | 33 => ⟨S1x16x16x16, .f32⟩
  | 34 => ⟨S1x16x16x16, .i32⟩
  | 35 => ⟨S1x16x16x16, .f32⟩
  | 36 => ⟨S1x16x16x16, .i32⟩
  | 37 => ⟨S_, .i32⟩
  | 38 => ⟨S1x16x16x16, .i32⟩
  | 39 => ⟨S1x16x16x16, .i1⟩
  | 40 => ⟨S_, .i32⟩
  | 41 => ⟨S1x16x16x16, .i32⟩
  | 42 => ⟨S1x16x16x16, .i32⟩
  | 43 => ⟨S1x16x16x16, .i32⟩
  | 44 => ⟨S16x16x16x1, .i32⟩
  | 45 => ⟨S1, .i32⟩
  | 46 => ⟨S_, .i32⟩
  | 47 => ⟨S16x16x16x1, .i32⟩
  | 48 => ⟨S16x16x16x1, .i1⟩
  | 49 => ⟨S1x1x1x1, .i32⟩
  | 50 => ⟨S16x16x16x1, .i32⟩
  | 51 => ⟨S16x16x16x1, .i1⟩
  | 52 => ⟨S16x16x16x1, .i1⟩
  | 53 => ⟨S_, .i1⟩
  | 54 => ⟨S16x16x16, .i1⟩
  | 55 => ⟨S1x16x16x16, .f32⟩
  | 56 => ⟨S1x16x16x16, .i1⟩
  | 57 => ⟨S_, .f32⟩
  | 58 => ⟨S1x16x16x16, .f32⟩
  | 59 => ⟨S1x16x16x16, .f32⟩
  | 60 => ⟨S_, .f32⟩
  | 61 => ⟨S_, .f32⟩
  | 62 => ⟨S1x16x16x16, .f32⟩
  | 63 => ⟨S1x16x16x1, .f32⟩
  | 64 => ⟨S_, .f32⟩
  | 65 => ⟨S1x16x16x1, .f32⟩
  | 66 => ⟨S1x16x16x1, .f32⟩
  | 67 => ⟨S1x16x16x16, .f32⟩
  | 68 => ⟨S1x16x16x16, .i1⟩
  | 69 => ⟨S1x16x16x16, .i32⟩
  | 70 => ⟨S1x16x16x16, .i32⟩
  | 71 => ⟨S_, .i32⟩
  | 72 => ⟨S_, .i32⟩
  | 73 => ⟨S1x16x16, .i32⟩
  | 74 => ⟨S1x16x16, .i32⟩
  | 75 => ⟨S1x16x16x1, .f32⟩
  | 76 => ⟨S1x16x16, .f32⟩
  | 77 => ⟨S1x16x16, .f32⟩
  | 78 => ⟨S_, .f32⟩
  | 79 => ⟨S1x16x16, .f32⟩
  | 80 => ⟨S1x16x16, .f32⟩
  | 81 => ⟨S1x16x16, .i1⟩
  | 82 => ⟨S_, .i32⟩
  | 83 => ⟨S_, .i32⟩
  | 84 => ⟨S1x16x16, .i32⟩
  | 85 => ⟨S1x16x16, .i32⟩
  | 86 => ⟨S_, .i32⟩
  | 87 => ⟨S_, .i32⟩
  | 88 => ⟨S_, .i32⟩
  | 89 => ⟨S1x16x16, .i32⟩
  | 90 => ⟨S1x16x16, .i32⟩
  | 91 => ⟨S_, .i32⟩
  | 92 => ⟨S1x16x16, .i32⟩
  | 93 => ⟨S1x16x16, .i32⟩
  | 94 => ⟨S16, .i32⟩
  | 95 => ⟨S1x1x1x16, .i32⟩
  | 96 => ⟨S1x16x16x1, .i32⟩
  | 97 => ⟨S1x16x16x16, .i32⟩
  | 98 => ⟨S1x16x16x16, .i32⟩
  | 99 => ⟨S1x16x16x16, .i1⟩
  | 100 => ⟨S1x16x16x16, .i32⟩
  | 101 => ⟨S1x16x16x16, .i32⟩
  | 102 => ⟨S1x16x16x16, .i32⟩
  | 103 => ⟨S_, .i32⟩
  | 104 => ⟨S1x16x16x16, .i32⟩
  | 105 => ⟨S1x16x16x16, .i1⟩
  | 106 => ⟨S_, .i32⟩
  | 107 => ⟨S1x16x16x16, .i32⟩
  | 108 => ⟨S1x16x16x16, .i32⟩
  | 109 => ⟨S1x16x16x16, .i32⟩
  | 110 => ⟨S16x16x16x1, .i32⟩
  | 111 => ⟨S1, .i32⟩
  | 112 => ⟨S_, .i32⟩
  | 113 => ⟨S16x16x16x1, .i32⟩
  | 114 => ⟨S16x16x16x1, .i1⟩
  | 115 => ⟨S1x1x1x1, .i32⟩
  | 116 => ⟨S16x16x16x1, .i32⟩
  | 117 => ⟨S16x16x16x1, .i1⟩
  | 118 => ⟨S16x16x16x1, .i1⟩
  | 119 => ⟨S_, .i1⟩
  | 120 => ⟨S16x16x16, .i1⟩
  | 121 => ⟨S1x16x16x16, .i1⟩
  | 122 => ⟨S1x16x16x16, .i1⟩
  | 123 => ⟨S_, .i1⟩
  | 124 => ⟨S1x16x16x16, .i1⟩
  | 125 => ⟨S1x16x16x16, .i1⟩
  | 126 => ⟨S1x16x16x128x16, .i1⟩
  | 127 => ⟨S1x16x2048x16, .i1⟩
  | _ => ⟨S1x16x2048x128, .f32⟩

abbrev hbmTy0_1 (i : Nat) : BufTy := match i % 128 with
  | 0 => ⟨S1x16x2048x16x128, .i1⟩
  | 1 => ⟨S1x16x2048x2048, .i1⟩
  | 2 => ⟨S1x16x2048x2048, .f32⟩
  | 3 => ⟨S_, .f32⟩
  | 4 => ⟨S1x16x2048x2048, .f32⟩
  | 5 => ⟨S1x16x2048x2048, .f32⟩
  | 6 => ⟨S_, .f32⟩
  | 7 => ⟨S_, .f32⟩
  | 8 => ⟨S1x16x2048x2048, .f32⟩
  | 9 => ⟨S1x16x2048x2048, .f32⟩
  | 10 => ⟨S_, .f32⟩
  | 11 => ⟨S1x16x2048, .f32⟩
  | 12 => ⟨S_, .f32⟩
  | 13 => ⟨S1x16x2048, .f32⟩
  | 14 => ⟨S1x16x2048, .f32⟩
  | 15 => ⟨S1x16x2048x1, .f32⟩
  | 16 => ⟨S1x16x2048x2048, .f32⟩
  | 17 => ⟨S1x16x2048x2048, .f32⟩
  | 18 => ⟨S1x16x2048x2048, .f32⟩
  | 19 => ⟨S_, .f32⟩
  | 20 => ⟨S1x16x2048, .f32⟩
  | 21 => ⟨S1x16x2048x1, .f32⟩
  | 22 => ⟨S1x16x2048x2048, .f32⟩
  | 23 => ⟨S1x16x2048x2048, .f32⟩
  | 24 => ⟨S1x16x2048x128, .f32⟩
  | _ => ⟨S1x16x2048x128, .f32⟩

abbrev hbmTy (i : Nat) : BufTy := match i / 128 with
  | 0 => hbmTy0_0 i
  | 1 => hbmTy0_1 i
  | _ => ⟨S1x16x2048x128, .f32⟩

abbrev bufTy : (tb : Table) → Fin (tcTables nBuf tb) → BufTy
  | .hbm, ⟨i, _⟩ => hbmTy i
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1_0 : Ref sig .tc := ⟨.hbm, 35, rfl⟩
abbrev main_v23 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v24 : Ref sig .tc := ⟨.hbm, 59, rfl⟩
abbrev main_call2_call0_cst : Ref sig .tc := ⟨.hbm, 60, rfl⟩
abbrev main_call2_call0_v0 : Ref sig .tc := ⟨.hbm, 61, rfl⟩
abbrev main_v25 : Ref sig .tc := ⟨.hbm, 62, rfl⟩
abbrev main_v26 : Ref sig .tc := ⟨.hbm, 63, rfl⟩
abbrev main_cst_7 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call3_v0 : Ref sig .tc := ⟨.hbm, 70, rfl⟩
abbrev main_call3_c : Ref sig .tc := ⟨.hbm, 71, rfl⟩
abbrev main_call3_c_0 : Ref sig .tc := ⟨.hbm, 72, rfl⟩
abbrev main_call3_v1_0 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_8 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c : Ref sig .tc := ⟨.hbm, 82, rfl⟩
abbrev main_call4_v0 : Ref sig .tc := ⟨.hbm, 83, rfl⟩
abbrev main_call4_v1 : Ref sig .tc := ⟨.hbm, 84, rfl⟩
abbrev main_v39 : Ref sig .tc := ⟨.hbm, 85, rfl⟩
abbrev main_c_9 : Ref sig .tc := ⟨.hbm, 86, rfl⟩
abbrev main_c_10 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_call6_v0 : Ref sig .tc := ⟨.hbm, 100, rfl⟩
abbrev main_call6_v1_0 : Ref sig .tc := ⟨.hbm, 101, rfl⟩
abbrev main_v47 : Ref sig .tc := ⟨.hbm, 102, rfl⟩
abbrev main_call7_c : Ref sig .tc := ⟨.hbm, 103, rfl⟩
abbrev main_call7_v0 : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_v5 : Ref sig .tc := ⟨.hbm, 110, rfl⟩
abbrev main_call7_c_1 : Ref sig .tc := ⟨.hbm, 111, rfl⟩
abbrev main_call7_c_2 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_3 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_call7_c_4 : Ref sig .tc := ⟨.hbm, 123, rfl⟩
abbrev main_call7_v15 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_cst_11 : Ref sig .tc := ⟨.hbm, 131, rfl⟩
abbrev main_v54 : Ref sig .tc := ⟨.hbm, 132, rfl⟩
abbrev main_v55 : Ref sig .tc := ⟨.hbm, 133, rfl⟩
abbrev main_cst_12 : Ref sig .tc := ⟨.hbm, 134, rfl⟩
abbrev main_call8_v0 : Ref sig .tc := ⟨.hbm, 135, rfl⟩
abbrev main_call8_v1 : Ref sig .tc := ⟨.hbm, 136, rfl⟩
abbrev main_v56 : Ref sig .tc := ⟨.hbm, 137, rfl⟩
abbrev main_cst_13 : Ref sig .tc := ⟨.hbm, 138, rfl⟩
abbrev main_v57 : Ref sig .tc := ⟨.hbm, 139, rfl⟩
abbrev main_cst_14 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_cst_15 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩

abbrev nD : Nat := 1
abbrev τ : Topo := Topo.v7x

variable {F : FTy → Type} [FloatOps F]
-- ==== Proof.IdealMaskBody.lean ====
/-
  The mask kernel's half of the run: what one grid point leaves in the mask window, and that the body run on whole
  staging buffers leaves exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.FrameTail
public import Idealize.ShloMosaic.Lib.Pipeline.Regions
public import Idealize.ShloMosaic.Lib.Pipeline.RegionArraysTS
public import Idealize.ShloMosaic.Lib.Ring
public import Idealize.ShloMosaic.Lib.Claim
public import Idealize.ShloMosaic.Lib.Tactic
public import Idealize.ShloMosaic.Lib.WordCmp

@[expose] public section

-- the rectangles' extents are in the thousands
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs: the first input; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the second. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole input block. -/
abbrev rIn : Rect S1x2048x128 := Rect.unit (s := S1x2048x128) ![0, 0, 0] S1x2048x128.size inb_S1x2048x128_S1x2048x128_0_0_0
/-- The whole mask block. -/
abbrev rMask : Rect S1x16x16 := Rect.unit (s := S1x16x16) ![0, 0, 0] S1x16x16.size inb_S1x16x16_S1x16x16_0_0_0

/-- The column numbers. -/
def maskIota (x0 : Vec F S1x2048x128 .f32) (x1 : Vec F S1x2048x128 .f32) : IVec S16x16 32 :=
  iota .tc S16x16 32 [1] iota_S16x16_d1_w32
/-- The pooled block probabilities of the two inputs. -/
def maskP (x0 : Vec F S1x2048x128 .f32) (x1 : Vec F S1x2048x128 .f32) : FVec F S16x16 .f32 :=
  k0_pay2 (View.ld x0 rIn) (View.ld x1 rIn)
/-- The ranks, the columns before the last one placed. -/
def maskRank14 (x0 : Vec F S1x2048x128 .f32) (x1 : Vec F S1x2048x128 .f32) : FVec F S16x16 .f32 :=
  k0_pay21 (maskP x0 x1) (maskIota x0 x1) (k0_pay20 (maskP x0 x1) (maskIota x0 x1) (k0_pay16 (maskP x0 x1) (maskIota x0 x1) (k0_pay13 (maskP x0 x1) (maskIota x0 x1) (k0_pay10 (maskP x0 x1) (maskIota x0 x1) (k0_pay5 (maskP x0 x1) (maskIota x0 x1) (k0_pay3 (F := F)) (k0_pay4 (View.ld x0 rIn) (View.ld x1 rIn))) (k0_pay7 (maskP x0 x1)) (k0_pay8 (maskP x0 x1)) (k0_pay9 (maskP x0 x1))) (k0_pay11 (maskP x0 x1)) (k0_pay12 (maskIota x0 x1))) (k0_pay14 (maskP x0 x1)) (k0_pay15 (maskP x0 x1))) (k0_pay18 (maskP x0 x1)) (k0_pay19 (maskP x0 x1)))
/-- The last column of the probabilities. -/
def maskLast (x0 : Vec F S1x2048x128 .f32) (x1 : Vec F S1x2048x128 .f32) : FVec F S16x1 .f32 :=
  k0_pay23 (maskP x0 x1)
/-- The columns before the last one. -/
def maskLeft (x0 : Vec F S1x2048x128 .f32) (x1 : Vec F S1x2048x128 .f32) : FVec F S16x15 .f32 :=
  k0_pay24 (maskP x0 x1)
/-- The last column set beside each column before it. -/
def maskCol (x0 : Vec F S1x2048x128 .f32) (x1 : Vec F S1x2048x128 .f32) : FVec F S16x15 .f32 :=
  k0_pay25 (maskP x0 x1)
/-- The ranks of the blocks. -/
def maskRank (x0 : Vec F S1x2048x128 .f32) (x1 : Vec F S1x2048x128 .f32) : FVec F S16x16 .f32 :=
  k0_pay26 (maskIota x0 x1) (maskRank14 x0 x1) (maskLast x0 x1) (maskLeft x0 x1) (maskCol x0 x1)

/-- The mask window after the body, from the two input blocks. -/
def maskOut (x0 : Vec F S1x2048x128 .f32) (x1 : Vec F S1x2048x128 .f32) : Vec F S1x16x16 .i32 :=
  View.canon [⟨rMask, k0_pay1 (maskRank x0 x1) (k0_pay34 (maskP x0 x1) (maskIota x0 x1) (maskRank x0 x1) (k0_pay32 (maskP x0 x1) (maskIota x0 x1) (maskRank x0 x1) (k0_pay30 (maskP x0 x1) (maskIota x0 x1) (maskRank x0 x1) (k0_pay29 (maskP x0 x1) (maskIota x0 x1) (maskRank x0 x1) (k0_pay27 (maskP x0 x1) (maskIota x0 x1) (maskRank14 x0 x1) (maskLast x0 x1) (maskLeft x0 x1) (maskCol x0 x1)) (k0_pay28 (maskP x0 x1) (maskIota x0 x1) (maskRank14 x0 x1) (maskLast x0 x1) (maskLeft x0 x1) (maskCol x0 x1))) (Scalar.ofBits .f32 0x40C00000#32)) (k0_pay31 (maskP x0 x1) (maskRank x0 x1)) 9#32) (k0_pay33 (F := F)))⟩]

/-- The one store fills the mask window. -/
theorem maskOut_cover (p0 : Vec F S1x16x16 .i32) (y : S1x16x16.Idx) :
    ∃ pc ∈ ([⟨rMask, p0⟩] : List (View.Piece (Elt F) S1x16x16 .i32)), y ∈ pc.1.set :=
  View.cover_of_tiled [⟨rMask, p0⟩] S1x16x16.size (by rfl) y

set_option maxHeartbeats 1000000 in
/-- The mask body on whole staging buffers: the inputs stay, the mask window ends at `maskOut` of them. -/
theorem mask_triple (c : Dev nD) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x16x16 .i32) (harg3 : arg3.IsWhole)
    (x0 : Vec F S1x2048x128 .f32) (x1 : Vec F S1x2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (maskOut x0 x1)) -∗ K ⟨⟩))
      ⊢ wp frame (wpE (defs₀ (F := F)) Variants.none c none) E (cc0__mask_body i arg1 harg1 arg2 harg2 arg3 harg3) K := by
  simp only [cc0__mask_body_eq_skeleton]; unfold cc0__mask_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (maskOut_cover _)).trans ?_
  rfl

/-- The mask pipeline's proof data: the arrays as found, each input window kept, the mask window at `maskOut`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => maskOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = maskOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the staging buffers hold the blocks, so the triple above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (mask_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body the pipeline calls at a point. -/
theorem defs₀_row0 (t : Fin cfg0.N) :
    defs₀ (F := F) .tc cfg0.body (cfg0.bodyArgs t (cfg0.slots t)) = bodyAt0 t := by
  unfold defs₀; rw [Defs.onTc_tc]

/-- The mask pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.IdealAttnBody.lean ====
/-
  The attention kernel's half of the run: the body on whole staging buffers beside the prefetched mask words, what its one
  store leaves in the output window, and the pipeline's proof data at any contents of the mask words.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.FrameTail
public import Idealize.ShloMosaic.Lib.Pipeline.Regions
public import Idealize.ShloMosaic.Lib.Pipeline.RegionArraysTS
public import Idealize.ShloMosaic.Lib.Ring
public import Idealize.ShloMosaic.Lib.Claim
public import Idealize.ShloMosaic.Lib.Tactic
public import Idealize.ShloMosaic.Lib.WordCmp

@[expose] public section

-- the rectangles' extents are in the thousands
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The mask words as the body is handed them: their whole buffer. -/
abbrev tbM : Memref sig .tc .smem S4096 .i32 := Memref.whole main_v4
abbrev htbM : tbM.IsWhole := Memref.isWhole_whole _
/-- A table's buffer on core `c`, and that buffer held whole at `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- One staging buffer of the output window, through which its contents are read. -/
abbrev VO1 : View sig .tc .vmem S1x128x128 .f32 := (Memref.whole cc1_stg3_0 : Memref sig .tc .vmem S1x128x128 .f32).view

set_option maxHeartbeats 1000000 in
/-- What the attention body's store leaves in the output window, WITH the proof that the body, run on whole staging buffers
    and the mask words `xt`, keeps its inputs and the words and leaves that. -/
noncomputable def attnRun (c : Dev nD) (i : grid1.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .f32) (harg6 : arg6.IsWhole)
    (x0 : Vec F S1x128x128 .bf16) (x1 : Vec F S1x2048x128 .bf16) (x2 : Vec F S1x2048x128 .bf16) (xt : TbBuf (F := F) c tbM) :
    { L : List (View.Piece (Elt F) S1x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt c tbM xt
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L) ∗ tbPt c tbM xt) -∗ K ⟨⟩))
          ⊢ wp frame (wpE (defs₀ (F := F)) Variants.none c none) E (cc1__attn_body i tbM htbM arg3 harg3 arg4 harg4 arg5 harg5 arg6 harg6) K } := by
  refine ⟨?_, fun E K => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%d3, %f3, -, H3⟩, HT, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexact HT

/-- The store fills the output window. -/
theorem attnRun_cover (c : Dev nD) (i : grid1.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .f32) (harg6 : arg6.IsWhole)
    (x0 : Vec F S1x128x128 .bf16) (x1 : Vec F S1x2048x128 .bf16) (x2 : Vec F S1x2048x128 .bf16) (xt : TbBuf (F := F) c tbM) (y : S1x128x128.Idx) :
    ∃ pc ∈ (attnRun c i arg3 harg3 arg4 harg4 arg5 harg5 arg6 harg6 x0 x1 x2 xt).1, y ∈ pc.1.set :=
  View.cover_of_tiledL (attnRun c i arg3 harg3 arg4 harg4 arg5 harg5 arg6 harg6 x0 x1 x2 xt).1 S1x128x128.size (by sl_kernel_rfl) y

/-- What the run leaves in the output window. -/
def attnLeft (c : Dev nD) (i : grid1.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .f32) (harg6 : arg6.IsWhole)
    (x0 : Vec F S1x128x128 .bf16) (x1 : Vec F S1x2048x128 .bf16) (x2 : Vec F S1x2048x128 .bf16) (xt : TbBuf (F := F) c tbM) : Vec F S1x128x128 .f32 :=
  VO1.read (Elt F) (VO1.writes (Elt F) VO1.junk (attnRun c i arg3 harg3 arg4 harg4 arg5 harg5 arg6 harg6 x0 x1 x2 xt).1)

section Region

variable (V : (c : Dev nD) → (b : Ref sig .tc) → Buf (Elt F) ((c : Thread nD τ).loc b)) (a : (pcfg1 (F := F)).Adm)

/-- Window `w`'s block at point `t`, read off its array at the contents `V`. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's staging buffer holds its block whenever the body runs: the queries; -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the keys; -/
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the values. -/
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's staging buffer at point `t`, and that it is whole. -/
abbrev ms0 (t : Fin (cfg1 a).N) : Memref sig .tc .vmem S1x128x128 .bf16 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S1x2048x128 .bf16 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x2048x128 .bf16 := spec1_2.stage ((cfg1 a).slots t 2)
abbrev hs2 (t : Fin (cfg1 a).N) : (ms2 a t).IsWhole := hstage1_2 (((cfg1 a).slots t 2).cast nbuf1_2)
abbrev ms3 (t : Fin (cfg1 a).N) : Memref sig .tc .vmem S1x128x128 .f32 := spec1_3.stage ((cfg1 a).slots t 3)
abbrev hs3 (t : Fin (cfg1 a).N) : (ms3 a t).IsWhole := hstage1_3 (((cfg1 a).slots t 3).cast nbuf1_3)

/-- The output window after the body at point `t`. -/
def outAt (c : Dev nD) (t : Fin (cfg1 a).N) : Vec F S1x128x128 .f32 :=
  attnLeft c (grid1.coords t) (ms0 a t) (hs0 a t) (ms1 a t) (hs1 a t) (ms2 a t) (hs2 a t) (ms3 a t) (hs3 a t) (iblk1 V a c 0 t) (iblk1 V a c 1 t) (iblk1 V a c 2 t) (a.1 0)

/-- The attention pipeline's proof data: the arrays as found, each input window kept, the output window at `outAt`; the mask
    words held whole throughout. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => outAt V a c t
  Φ _ := iprop(Pipeline.ΦA spec1 c ∗ Pipeline.prefHeld pre1 c (fun _ => fullShare) a.1)
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = outAt V a c t := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d

/-- The one table, held. -/
theorem prefHeld1_eq (c : Dev nD) : (Pipeline.prefHeld pre1 c (fun _ => fullShare) a.1 : sProp 𝕄) = iprop(tbPt c tbM (a.1 0)) := by
  unfold Pipeline.prefHeld
  rw [show (Finset.univ : Finset (Fin 1)) = {(0 : Fin 1)} from by decide, bigSep_singleton]
  rfl

/-- The body the pipeline calls at point `t`. -/
abbrev bodyAt1 (t : Fin (cfg1 a).N) : Prog (TpuEff nD τ sig (Elt F) Λ₀ .tc) PUnit :=
  cc1__attn_body (grid1.coords t) tbM htbM (ms0 a t) (hs0 a t) (ms1 a t) (hs1 a t) (ms2 a t) (hs2 a t) (ms3 a t) (hs3 a t)

/-- What the body is called with at point `t`, -/
def bodyPre1 (c : Dev nD) (t : Fin (cfg1 a).N) : sProp 𝕄 :=
  iprop((dat1 V a c).Φ t.castSucc ∗ (dat1 V a c).owesAt () t.castSucc
    ∗ (∃ d, owns (c : Thread nD τ) (ms0 a t) fullShare ((dat1 V a c).before 0 t d))
    ∗ (∃ d, owns (c : Thread nD τ) (ms1 a t) fullShare ((dat1 V a c).before 1 t d))
    ∗ (∃ d, owns (c : Thread nD τ) (ms2 a t) fullShare ((dat1 V a c).before 2 t d))
    ∗ (∃ d, owns (c : Thread nD τ) (ms3 a t) fullShare ((dat1 V a c).before 3 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (ms0 a t) fullShare ((dat1 V a c).after 0 t)
    ∗ owns (c : Thread nD τ) (ms1 a t) fullShare ((dat1 V a c).after 1 t)
    ∗ owns (c : Thread nD τ) (ms2 a t) fullShare ((dat1 V a c).after 2 t)
    ∗ owns (c : Thread nD τ) (ms3 a t) fullShare ((dat1 V a c).after 3 t))

/-- The body at any point: the staging buffers hold the blocks and the table its words, so the run above applies. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3]
  rw [show (dat1 V a c).Φ t.castSucc = iprop(Pipeline.ΦA spec1 c ∗ Pipeline.prefHeld pre1 c (fun _ => fullShare) a.1) from rfl, prefHeld1_eq]
  unfold outAt attnLeft
  iintro ⟨⟨HΦ, HT⟩, Ho, ⟨%d0, H0⟩, ⟨%d1, H1⟩, ⟨%d2, H2⟩, ⟨%d3, H3⟩⟩
  iapply ((attnRun c (grid1.coords t) _ _ _ _ _ _ _ _ (iblk1 V a c 0 t) (iblk1 V a c 1 t) (iblk1 V a c 2 t) (a.1 0)).2 Set.univ _)
  isplitl [H0]; · iexact H0
  isplitl [H1]; · iexact H1
  isplitl [H2]; · iexact H2
  isplitl [H3]; · iexists _; iexact H3
  isplitl [HT]; · iexact HT
  iintro ⟨H0, H1, H2, ⟨%e3, H3⟩, HT⟩
  isplitl [HΦ HT]
  · isplitl [HΦ]
    · iexact HΦ
    iexact HT
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (attnRun_cover c _ _ _ _ _ _ _ _ _ _ _ _ _)

/-- The body the pipeline calls at a point. -/
theorem defs₀_row1 (t : Fin (cfg1 a).N) :
    defs₀ (F := F) .tc (cfg1 a).body ((cfg1 a).bodyArgs t ((cfg1 a).slots t)) = bodyAt1 a t := by
  unfold defs₀; rw [Defs.onTc_tc]

/-- The attention pipeline's obligation at every point. -/
theorem body_obligation1 (c : Dev nD) : BodyObligation (dat1 (F := F) V a c) (defs₀ (F := F)) Variants.none () Set.univ := fun t => by
  rw [bigSep_W1, bigSep_W1, defs₀_row1]
  exact triple_restated (sound_body1 V a c t) rfl .rfl fun _ => .rfl

end Region

end Cert.KernelIdeal.Run

end
-- ==== Proof.IdealRun.lean ====
/-
  The whole program's run: the host stretches, the mask region and the attention region in order, each unscoped buffer
  followed through them, and the launch over those segments. The final state holds every unscoped buffer at its last
  contents, and every counter at zero.
-/
module

public import proofs.«01_k».proof.Proof.IdealMaskBody
public import proofs.«01_k».proof.Proof.IdealAttnBody
public import Idealize.ShloMosaic.Lib.Pipeline.Frame
public import Idealize.ShloMosaic.Lib.Pipeline.FrameBody
public import Idealize.ShloMosaic.Lib.Pipeline.FrameTail
public import Idealize.ShloMosaic.Lib.Pipeline.Regions
public import Idealize.ShloMosaic.Lib.Pipeline.RegionArraysTS
public import Idealize.ShloMosaic.Lib.Ring
public import Idealize.ShloMosaic.Lib.Claim
public import Idealize.ShloMosaic.Lib.Tactic
public import Idealize.ShloMosaic.Lib.WordCmp

@[expose] public section

-- the rectangles' extents are in the thousands
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host stretches -/

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- The references each stretch writes. -/
abbrev wr0 : List (Ref sig .tc) := [main_v0, main_v1, main_v2]
abbrev wr1 : List (Ref sig .tc) := [main_v4, main_cst, main_v5, main_v6, main_v7, main_v8, main_v9]
abbrev wr2 : List (Ref sig .tc) := [main_v11]
theorem ops0_writes : (hostOps0 : List (HloOp τ sig (Elt F))).Forall fun op => op.writes ⊆ (wr0.map (Proc.devRef (τ := τ) .tc)).toFinset :=
  StableHlo.forall_writes_sub_of_map rfl
theorem ops1_writes : (hostOps1 : List (HloOp τ sig (Elt F))).Forall fun op => op.writes ⊆ (wr1.map (Proc.devRef (τ := τ) .tc)).toFinset :=
  StableHlo.forall_writes_sub_of_map rfl
theorem ops2_writes : (hostOps2 : List (HloOp τ sig (Elt F))).Forall fun op => op.writes ⊆ (wr2.map (Proc.devRef (τ := τ) .tc)).toFinset :=
  StableHlo.forall_writes_sub_of_map rfl

/-! ## The contents between the items -/

/-- A valuation read at the core's references. -/
abbrev atRefs (W : Dev nD → Valuation τ sig (Elt F)) : (c : Dev nD) → (b : Ref sig .tc) → Buf (Elt F) ((c : Thread nD τ).loc b) :=
  fun c b => W c (Proc.devRef .tc b)

/-- At launch; -/
abbrev W0 : Dev nD → Valuation τ sig (Elt F) := fun c b => m (c, b)
/-- before the mask region; -/
abbrev W1 : Dev nD → Valuation τ sig (Elt F) := fun c => StableHlo.after hostOps0 (W0 m c)
/-- after it; -/
def W2 (c : Dev nD) : Valuation τ sig (Elt F) := Pipeline.afterRegion (dat0 (atRefs (W1 m)) c) (W1 m c)
/-- before the attention region; -/
abbrev W3 : Dev nD → Valuation τ sig (Elt F) := fun c => StableHlo.after hostOps1 (W2 m c)

/-- The mask words at the attention region's entry (the machine has one core). -/
def words : pre1.Contents (Elt F) := fun k => W3 m 0 (Proc.devRef .tc (pre1.ref k))
/-- Those words are admissible: no window of the region reads them. -/
def adm1 : (pcfg1 (F := F)).Adm := ⟨words m, trivial⟩

/-- after it; -/
def W4 (c : Dev nD) : Valuation τ sig (Elt F) := Pipeline.afterRegion (dat1 (atRefs (W3 m)) (adm1 m) c) (W3 m c)
/-- at the end. -/
abbrev W5 : Dev nD → Valuation τ sig (Elt F) := fun c => StableHlo.after hostOps2 (W4 m c)

/-- The mask region keeps every buffer but the mask array, -/
theorem W2_keeps (c : Dev nD) (r : Ref sig .tc) (h : ∀ w, Pipeline.arrRef spec0 w = r → (cfg0.win w).isOut = false) :
    W2 m c (Proc.devRef .tc r) = W1 m c (Proc.devRef .tc r) :=
  Pipeline.afterRegion_keeps (dat0 (atRefs (W1 m)) c) (W1 m c) (launch0 (F := F)).win.arr_inj (fun w => A_eq0 (atRefs (W1 m)) c w) r h
/-- where it leaves what its write-backs fold to. -/
theorem W2_mask (c : Dev nD) : W2 m c (Proc.devRef .tc main_v3) = (dat0 (atRefs (W1 m)) c).arrAt 2 cfg0.N :=
  Pipeline.afterRegion_arr (dat0 (atRefs (W1 m)) c) (W1 m c) (launch0 (F := F)).win.arr_inj 2
/-- The attention region keeps every buffer but the output array, -/
theorem W4_keeps (c : Dev nD) (r : Ref sig .tc) (h : ∀ w, Pipeline.arrRef spec1 w = r → ((cfg1 (adm1 m)).win w).isOut = false) :
    W4 m c (Proc.devRef .tc r) = W3 m c (Proc.devRef .tc r) :=
  Pipeline.afterRegion_keeps (dat1 (atRefs (W3 m)) (adm1 m) c) (W3 m c) (launch1 (F := F)).win.arr_inj
    (fun w => A_eq1 (atRefs (W3 m)) (adm1 m) c w) r h
/-- where it leaves what its write-backs fold to. -/
theorem W4_out (c : Dev nD) : W4 m c (Proc.devRef .tc main_v10) = (dat1 (atRefs (W3 m)) (adm1 m) c).arrAt 3 (cfg1 (adm1 m)).N :=
  Pipeline.afterRegion_arr (dat1 (atRefs (W3 m)) (adm1 m) c) (W3 m c) (launch1 (F := F)).win.arr_inj 3

/-- An argument is written by no item. -/
theorem W5_arg (c : Dev nD) (r : Ref sig .tc) (h0 : r ∉ wr0) (h1 : r ∉ wr1) (h2 : r ∉ wr2)
    (g0 : ∀ w, Pipeline.arrRef spec0 w ≠ r) (g1 : ∀ w, Pipeline.arrRef spec1 w ≠ r) :
    W5 m c (Proc.devRef .tc r) = m ((c : Thread nD τ).loc r) :=
  (StableHlo.after_of_writes_sub hostOps2 _ ops2_writes h2).trans <|
    (W4_keeps m c r fun w e => absurd e (g1 w)).trans <|
    (StableHlo.after_of_writes_sub hostOps1 _ ops1_writes h1).trans <|
    (W2_keeps m c r fun w e => absurd e (g0 w)).trans <|
    (StableHlo.after_of_writes_sub hostOps0 _ ops0_writes h0)

/-! ## The segments -/

/-- The mask pipeline has no table; the attention pipeline's holds the mask words. -/
abbrev adm : (p : Fin 2) → (pcfgs (F := F) p).Adm
  | ⟨0, _⟩ => cfg0.toPCfg_adm
  | ⟨1, _⟩ => adm1 m
/-- Each region's proof data, at its entry contents. -/
def pdats : (p : Fin 2) → (c : Dev nD) → Dat τ (Elt F) Unit ℕ (UR sig nD τ) ℕ (Pipeline.pin (pcfgs (F := F)) (adm m) p) c
  | ⟨0, _⟩ => fun c => dat0 (atRefs (W1 m)) c
  | ⟨1, _⟩ => fun c => dat1 (atRefs (W3 m)) (adm1 m) c
/-- One level for everything a core may wait on; no core owes another anything. -/
abbrev lvs : GSem nD τ sig → Finset Unit := fun g => if g.1.2 = .tc then {()} else ∅
abbrev lvl : GSem nD τ sig → Unit → ℕ := fun _ _ => 0
/-- What rides beside the buffers: a core that owes nothing, and its generator register at some state. -/
abbrev rest (c : Dev nD) : sProp 𝕄 :=
  iprop((∃ W, owes (c : Thread nD τ) (0 : CellTallies nD τ sig Unit) W) ∗ (∃ r, prngReg c r) ∗ emp)

/-- A host stretch over the unscoped buffers. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvs lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- With nothing owed, one level meets every cut. -/
theorem cut (p : Fin 2) : Pipeline.LevelCut (pcfgs (F := F)) (adm m) () lvs lvl p (fun _ : Dev nD => (0 : CellTallies nD τ sig Unit)) fun _ => 0 where
  hι c w s := by simp [lvs]
  hιb c w s := le_refl _
  hD c g i h := absurd h (lt_irrefl _)

-- the record's windows are those of a configuration picked by the pipeline's number
set_option backward.isDefEq.respectTransparency.types false in
/-- The mask region. -/
def maskSeg : Pipeline.RegionSeg (pcfgs (F := F)) (adm m) (pdats m) () defs₀ Variants.none lvs lvl 0 :=
  Pipeline.RegionSeg.ofHeldIn (pcfgs (F := F)) (adm m) (pdats m) () defs₀ Variants.none lvs lvl 0 (fun _ => 0) (Pipeline.ucRefs τ sig)
    (fun c => iprop(∃ r, prngReg c r)) (fun c => iprop(∃ r, prngReg c r)) launch0 rfl
    (fun c => (body_obligation0 (atRefs (W1 m)) c).loose) (fun _ _ => rfl) (fun _ => rfl)
    (fun c => (pdats m 0 c).share_full fun _ => rfl)
    (fun c => .rfl) (fun c => .rfl) (fun _ => 0) (cut m 0) (fun _ => iprop(emp)) (W1 m)
    (fun c w => A_eq0 (atRefs (W1 m)) c w)

set_option backward.isDefEq.respectTransparency.types false in
/-- The attention region: the mask words go into the invariant whole and come back. -/
def attnSeg : Pipeline.RegionSeg (pcfgs (F := F)) (adm m) (pdats m) () defs₀ Variants.none lvs lvl 1 :=
  Pipeline.RegionSeg.ofHeldInT (pcfgs (F := F)) (adm m) (pdats m) () defs₀ Variants.none lvs lvl 1 (fun _ => 0) (Pipeline.ucRefs τ sig)
    (fun c => iprop(∃ r, prngReg c r)) (fun c => iprop(∃ r, prngReg c r)) launch1
    (fun c => (body_obligation1 (atRefs (W3 m)) (adm1 m) c).loose) (fun _ _ => rfl) (fun _ => rfl)
    (fun c => (pdats m 1 c).share_full fun _ => rfl)
    (fun c => .rfl) (fun c => .rfl) (fun _ => 0) (cut m 1) (fun _ => iprop(emp)) (W3 m)
    (fun c w => A_eq1 (atRefs (W3 m)) (adm1 m) c w)
    (fun c k => by rw [Subsingleton.elim c 0]; rfl)

set_option backward.isDefEq.respectTransparency.types false in
/-- The mask region is entered from the buffers after the first stretch, -/
theorem mask_pre (c : Dev nD) : iprop(StableHlo.held (c : Thread nD τ) (Pipeline.ucRefs τ sig) (W1 m c) ∗ rest c) ⊢ (maskSeg m).pre c := by
  unfold maskSeg
  exact Pipeline.RegionSeg.ofHeldIn_pre (p := 0) (pdats := pdats m) (D := fun _ => 0) (W := W1 m) (X := fun c => iprop(∃ r, prngReg c r)) (Y := fun c => iprop(∃ r, prngReg c r)) (R := fun _ => iprop(emp)) (Pipeline.arrRefs_sub_ucRefs _ (launch0 (F := F)).win.arr_unscoped) c
set_option backward.isDefEq.respectTransparency.types false in
/-- and left at the next contents. -/
theorem mask_post (c : Dev nD) : (maskSeg m).post c ⊢ iprop(StableHlo.held (c : Thread nD τ) (Pipeline.ucRefs τ sig) (W2 m c) ∗ rest c) := by
  unfold maskSeg W2
  exact Pipeline.RegionSeg.ofHeldIn_post (Pipeline.arrRefs_sub_ucRefs _ (launch0 (F := F)).win.arr_unscoped) c
/-- The attention region's arrays and its table are unscoped. -/
theorem attn_arrays : Pipeline.arrRefs (τ := τ) (pcfgs (F := F) 1).spec ⊆ Pipeline.ucRefs τ sig :=
  Pipeline.arrRefs_sub_ucRefs _ (launch1 (F := F)).win.arr_unscoped
theorem attn_table : Pipeline.tblRefs (τ := τ) (pcfgs (F := F) 1).pre ⊆ Pipeline.ucRefs τ sig :=
  Pipeline.tblRefs_sub_ucRefs _ (launch1 (F := F)).pre.unscoped

set_option backward.isDefEq.respectTransparency.types false in
/-- The attention region is entered from the buffers after the second stretch, -/
theorem attn_pre (c : Dev nD) : iprop(StableHlo.held (c : Thread nD τ) (Pipeline.ucRefs τ sig) (W3 m c) ∗ rest c) ⊢ (attnSeg m).pre c := by
  unfold attnSeg
  exact Pipeline.RegionSeg.ofHeldInT_pre (p := 1) (pdats := pdats m) (D := fun _ => 0) (W := W3 m) (X := fun c => iprop(∃ r, prngReg c r)) (Y := fun c => iprop(∃ r, prngReg c r)) (R := fun _ => iprop(emp)) (attn_arrays (F := F)) (attn_table (F := F)) c
set_option backward.isDefEq.respectTransparency.types false in
/-- and left at the next contents. -/
theorem attn_post (c : Dev nD) : (attnSeg m).post c ⊢ iprop(StableHlo.held (c : Thread nD τ) (Pipeline.ucRefs τ sig) (W4 m c) ∗ rest c) := by
  unfold attnSeg W4
  exact Pipeline.RegionSeg.ofHeldInT_post (attn_arrays (F := F)) (attn_table (F := F)) c

/-- The program's five items. -/
abbrev items : List (Pipeline.Seg (pcfgs (F := F)) (adm m) (pdats m) () defs₀ Variants.none lvs lvl) :=
  [ .host (stretch hostOps0 hostOps0_sub ops0_fresh (W0 m)),
    .region (maskSeg m),
    .host (stretch hostOps1 hostOps1_sub ops1_fresh (W2 m)),
    .region (attnSeg m),
    .host (stretch hostOps2 hostOps2_sub ops2_fresh (W4 m)) ]
/-- The program is the run of its items. -/
theorem main_items (c : Dev nD) : main (F := F) c = Pipeline.Seg.run (items m) := (main_chain c).trans (by chain_rfl)

theorem counters_scoped : ∀ sm : SemLoc sig, sm.isScoped .tc = true := by decide

set_option backward.isDefEq.respectTransparency.types false in
/-- Every fair execution ends, each unscoped buffer at the last contents and every counter at zero. -/
theorem run_ends : θ_run defs (onTc (τ := τ) (main (F := F))) ⟨m, fun _ => 0, ρ⟩ (fun r =>
      (∀ c : Dev nD, ∀ b ∈ Pipeline.ucRefs τ sig, r.2.mem (((c : Thread nD τ)).1, b) = W5 m c b) ∧ r.2.sem = fun _ => 0) :=
  Pipeline.θ_run_regions_kit_sems (pcfgs (F := F)) (adm m) (pdats m) () (cellOf_inj (adm m)) emb₁ defs₀ Variants.none lvs lvl m ρ main (items m)
    (fun c Q => by rw [main_items m c])
    (by simp only [items, Pipeline.Seg.pipes_host, Pipeline.Seg.pipes_region, Pipeline.Seg.pipes_nil]; decide)
    (O₀ := 0) (hL := fun g hg => if_neg hg) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => iprop(StableHlo.held (c : Thread nD τ) (Pipeline.ucRefs τ sig) (W5 m c) ∗ ∃ r, prngReg c r))
    (hch := ⟨fun _ => .rfl,
      mask_pre m, mask_post m, attn_pre m, attn_post m,
      fun c => by
        dsimp only [Pipeline.Seg.post, stretch, Pipeline.HostSeg.ofOps]
        iintro ⟨Hh, HO, Hp, -⟩
        isplitl [Hh Hp]
        · isplitl [Hh]; · iexact Hh
          iexact Hp
        iexact HO⟩)
    (hinit := by
      refine Pipeline.initEach lvs lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (counters_scoped g.2))⟩)

/-- The arguments end as they were. -/
theorem args_kept (c : Dev nD) : W5 m c (Proc.devRef .tc main_arg0) = m ((c : Thread nD τ).loc main_arg0)
    ∧ W5 m c (Proc.devRef .tc main_arg1) = m ((c : Thread nD τ).loc main_arg1)
    ∧ W5 m c (Proc.devRef .tc main_arg2) = m ((c : Thread nD τ).loc main_arg2) :=
  ⟨W5_arg m c main_arg0 (by decide) (by decide) (by decide) (by decide) (by decide),
   W5_arg m c main_arg1 (by decide) (by decide) (by decide) (by decide) (by decide),
   W5_arg m c main_arg2 (by decide) (by decide) (by decide) (by decide) (by decide)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_uc main_arg0 (by decide))).trans (args_kept m c).1,
     (h.1 c _ (mem_uc main_arg1 (by decide))).trans (args_kept m c).2.1,
     (h.1 c _ (mem_uc main_arg2 (by decide))).trans (args_kept m c).2.2⟩, h.2⟩) (run_ends m ρ)

end Cert.KernelIdeal.Run

end
-- ==== Proof.RefRun.lean ====
/- The reference program as a list of its host operations in named stages, and its run: every execution ends with
   the result at the composed stages of the arguments and the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The operations that make the pooled scores, scaled. -/
abbrev ops_poolScores : List (HloOp τ sig (Elt F)) :=
  [ reshape main_arg0 main_v0 (rfl : (.f32 : EltTy) = .f32) shapeCasts_S1x16x2048x128_S1x16x16x128x128,
    nullary main_cst (constant S_ .f32 0x00000000#32),
    binary main_v0 main_cst main_v1 ((fun x v => Host.reduceAdd x v reducesTo_S1x16x16x128x128_S1x16x16x128_d3 h_S_) : (⟨S1x16x16x128x128, .f32⟩ : BufTy).Contents (Elt F) → (⟨S_, .f32⟩ : BufTy).Contents (Elt F) → (⟨S1x16x16x128, .f32⟩ : BufTy).Contents (Elt F)),
    nullary main_cst_0 (constant S_ .f32 0x43000000#32),
    unary main_cst_0 main_v2 (broadcastInDim S1x16x16x128 ![] bcast_S_S1x16x16x128 : (⟨S_, .f32⟩ : BufTy).Contents (Elt F) → (⟨S1x16x16x128, .f32⟩ : BufTy).Contents (Elt F)),
    binary main_v1 main_v2 main_v3 (Host.divf : (⟨S1x16x16x128, .f32⟩ : BufTy).Contents (Elt F) → (⟨S1x16x16x128, .f32⟩ : BufTy).Contents (Elt F) → (⟨S1x16x16x128, .f32⟩ : BufTy).Contents (Elt F)),
    reshape main_arg1 main_v4 (rfl : (.f32 : EltTy) = .f32) shapeCasts_S1x16x2048x128_S1x16x16x128x128,
    nullary main_cst_1 (constant S_ .f32 0x00000000#32),
    binary main_v4 main_cst_1 main_v5 ((fun x v => Host.reduceAdd x v reducesTo_S1x16x16x128x128_S1x16x16x128_d3 h_S_) : (⟨S1x16x16x128x128, .f32⟩ : BufTy).Contents (Elt F) → (⟨S_, .f32⟩ : BufTy).Contents (Elt F) → (⟨S1x16x16x128, .f32⟩ : BufTy).Contents (Elt F)),
    nullary main_cst_2 (constant S_ .f32 0x43000000#32),
    unary main_cst_2 main_v6 (broadcastInDim S1x16x16x128 ![] bcast_S_S1x16x16x128 : (⟨S_, .f32⟩ : BufTy).Contents (Elt F) → (⟨S1x16x16x128, .f32⟩ : BufTy).Contents (Elt F)),
    binary main_v5 main_v6 main_v7 (Host.divf : (⟨S1x16x16x128, .f32⟩ : BufTy).Contents (Elt F) → (⟨S1x16x16x128, .f32⟩ : BufTy).Contents (Elt F) → (⟨S1x16x16x128, .f32⟩ : BufTy).Contents (Elt F)),
    binary main_v3 main_v7 main_v8 ((fun l r => Host.dotGeneral dot_S1x16x16x128_S1x16x16x128_S1x16x16x16_3_3_2_2_01_01 none l r) : (⟨S1x16x16x128, .f32⟩ : BufTy).Contents (Elt F) → (⟨S1x16x16x128, .f32⟩ : BufTy).Contents (Elt F) → (⟨S1x16x16x16, .f32⟩ : BufTy).Contents (Elt F)),
    nullary main_cst_3 (constant S_ .f32 0x3DB504F3#32),
    unary main_cst_3 main_v9 (broadcastInDim S1x16x16x16 ![] bcast_S_S1x16x16x16 : (⟨S_, .f32⟩ : BufTy).Contents (Elt F) → (⟨S1x16x16x16, .f32⟩ : BufTy).Contents (Elt F)),
    binary main_v8 main_v9 main_v10 (mulf : (⟨S1x16x16x16, .f32⟩ : BufTy).Contents (Elt F) → (⟨S1x16x16x16, .f32⟩ : BufTy).Contents (Elt F) → (⟨S1x16x16x16, .f32⟩ : BufTy).Contents (Elt F)) ]

/-- The operations that make the exponentials of the pooled scores less their row maximum. -/
abbrev ops_poolExp : List (HloOp τ sig (Elt F)) :=
  [ nullary main_cst_4 (constant S_ .f32 0xFF800000#32),
    binary main_v10 main_cst_4 main_v11 ((fun x v => Host.reduce FloatOps.maximumf x v reducesTo_S1x16x16x16_S1x16x16_d3 h_S_) : (⟨S1x16x16x16, .f32⟩ : BufTy).Contents (Elt F) → (⟨S_, .f32⟩ : BufTy).Contents (Elt F) → (⟨S1x16x16, .f32⟩ : BufTy).Contents (Elt F)),
    nullary main_cst_5 (constant S_ .f32 0xFF800000#32),
    unary main_cst_5 main_v12 (broadcastInDim S1x16x16 ![] bcast_S_S1x16x16 : (⟨S_, .f32⟩ : BufTy).Contents (Elt F) → (⟨S1x16x16, .f32⟩ : BufTy).Contents (Elt F)),
    binary main_v12 main_v11 main_v13 (maximumf : (⟨S1x16x16, .f32⟩ : BufTy).Contents (Elt F) → (⟨S1x16x16, .f32⟩ : BufTy).Contents (Elt F) → (⟨S1x16x16, .f32⟩ : BufTy).Contents (Elt F)),
    unary main_v13 main_v14 (broadcastInDim S1x16x16x1 ![0, 1, 2] bcast_S1x16x16_S1x16x16x1_0_1_2 : (⟨S1x16x16, .f32⟩ : BufTy).Contents (Elt F) → (⟨S1x16x16x1, .f32⟩ : BufTy).Contents (Elt F)),
    unary main_v14 main_v15 (broadcastInDim S1x16x16x16 ![0, 1, 2, 3] bcast_S1x16x16x1_S1x16x16x16_0_1_2_3 : (⟨S1x16x16x1, .f32⟩ : BufTy).Contents (Elt F) → (⟨S1x16x16x16, .f32⟩ : BufTy).Contents (Elt F)),
    binary main_v10 main_v15 main_v16 (subf : (⟨S1x16x16x16, .f32⟩ : BufTy).Contents (Elt F) → (⟨S1x16x16x16, .f32⟩ : BufTy).Contents (Elt F) → (⟨S1x16x16x16, .f32⟩ : BufTy).Contents (Elt F)),
    unary main_v16 main_v17 (Host.exp : (⟨S1x16x16x16, .f32⟩ : BufTy).Contents (Elt F) → (⟨S1x16x16x16, .f32⟩ : BufTy).Contents (Elt F)) ]

/-- The operations that make the pooled softmax. -/
abbrev ops_poolProbs : List (HloOp τ sig (Elt F)) :=
  [ nullary main_cst_6 (constant S_ .f32 0x00000000#32),
    binary main_v17 main_cst_6 main_v18 ((fun x v => Host.reduceAdd x v reducesTo_S1x16x16x16_S1x16x16_d3 h_S_) : (⟨S1x16x16x16, .f32⟩ : BufTy).Contents (Elt F) → (⟨S_, .f32⟩ : BufTy).Contents (Elt F) → (⟨S1x16x16, .f32⟩ : BufTy).Contents (Elt F)),
    unary main_v18 main_v19 (broadcastInDim S1x16x16x1 ![0, 1, 2] bcast_S1x16x16_S1x16x16x1_0_1_2 : (⟨S1x16x16, .f32⟩ : BufTy).Contents (Elt F) → (⟨S1x16x16x1, .f32⟩ : BufTy).Contents (Elt F)),
    unary main_v19 main_v20 (broadcastInDim S1x16x16x16 ![0, 1, 2, 3] bcast_S1x16x16x1_S1x16x16x16_0_1_2_3 : (⟨S1x16x16x1, .f32⟩ : BufTy).Contents (Elt F) → (⟨S1x16x16x16, .f32⟩ : BufTy).Contents (Elt F)),
    binary main_v17 main_v20 main_v21 (Host.divf : (⟨S1x16x16x16, .f32⟩ : BufTy).Contents (Elt F) → (⟨S1x16x16x16, .f32⟩ : BufTy).Contents (Elt F) → (⟨S1x16x16x16, .f32⟩ : BufTy).Contents (Elt F)) ]

/-- The operations that make the positions in decreasing order of probability. -/
abbrev ops_order : List (HloOp τ sig (Elt F)) :=
  [ unary main_v21 main_v22 (Host.negf : (⟨S1x16x16x16, .f32⟩ : BufTy).Contents (Elt F) → (⟨S1x16x16x16, .f32⟩ : BufTy).Contents (Elt F)),
    TRef.nullary (TRef.of (T := ⟨S1x16x16x16, .i32⟩) main_call0_v0) (iotaInDim S1x16x16x16 32 3),
    TRef.binary (TRef.of (T := ⟨S1x16x16x16, .f32⟩) main_v22) (TRef.of (T := ⟨S1x16x16x16, .i32⟩) main_call0_v0) (TRef.of (T := ⟨S1x16x16x16, .f32⟩) main_call0_v1_0) (fun x y => (Host.sort2 S1x16x16x16 3 comparator_f32_i32_d3 x y).1),
    TRef.binary (TRef.of (T := ⟨S1x16x16x16, .f32⟩) main_v22) (TRef.of (T := ⟨S1x16x16x16, .i32⟩) main_call0_v0) (TRef.of (T := ⟨S1x16x16x16, .i32⟩) main_v23) (fun x y => (Host.sort2 S1x16x16x16 3 comparator_f32_i32_d3 x y).2) ]

/-- The operations that make the positions with negative ones wrapped, as an index column. -/
abbrev ops_wrapF : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S1x16x16x16, .i32⟩) main_call1_v0) (broadcastInDim S1x16x16x16 ![] bcast_S_S1x16x16x16),
    TRef.binary (TRef.of (T := ⟨S1x16x16x16, .i32⟩) main_v23) (TRef.of (T := ⟨S1x16x16x16, .i32⟩) main_call1_v0) (TRef.of (T := ⟨S1x16x16x16, .i1⟩) main_call1_v1) (cmpi .slt),
    TRef.nullary (TRef.of (T := ⟨S_, .i32⟩) main_call1_c_0) (constantI S_ 32 16#32),
    TRef.unary (TRef.of (T := ⟨S_, .i32⟩) main_call1_c_0) (TRef.of (T := ⟨S1x16x16x16, .i32⟩) main_call1_v2) (broadcastInDim S1x16x16x16 ![] bcast_S_S1x16x16x16),
    TRef.binary (TRef.of (T := ⟨S1x16x16x16, .i32⟩) main_v23) (TRef.of (T := ⟨S1x16x16x16, .i32⟩) main_call1_v2) (TRef.of (T := ⟨S1x16x16x16, .i32⟩) main_call1_v3) addi,
    TRef.ternary (TRef.of (T := ⟨S1x16x16x16, .i1⟩) main_call1_v1) (TRef.of (T := ⟨S1x16x16x16, .i32⟩) main_call1_v3) (TRef.of (T := ⟨S1x16x16x16, .i32⟩) main_v23) (TRef.of (T := ⟨S1x16x16x16, .i32⟩) main_call1_v4) select,
    TRef.reshape (TRef.of (T := ⟨S1x16x16x16, .i32⟩) main_call1_v4) (TRef.of (T := ⟨S16x16x16x1, .i32⟩) main_call1_v5) (rfl : (.i32 : EltTy) = .i32) shapeCasts_S1x16x16x16_S16x16x16x1 ]

/-- The operations that make the probabilities taken in that order. -/
abbrev ops_sorted : List (HloOp τ sig (Elt F)) :=
  [ TRef.nullary (TRef.of (T := ⟨S1, .i32⟩) main_call1_c_1) (constantI S1 32 15#32),
    TRef.nullary (TRef.of (T := ⟨S_, .i32⟩) main_call1_c_2) (constantI S_ 32 0#32),
    TRef.unary (TRef.of (T := ⟨S_, .i32⟩) main_call1_c_2) (TRef.of (T := ⟨S16x16x16x1, .i32⟩) main_call1_v6) (broadcastInDim S16x16x16x1 ![] bcast_S_S16x16x16x1),
    TRef.binary (TRef.of (T := ⟨S16x16x16x1, .i32⟩) main_call1_v5) (TRef.of (T := ⟨S16x16x16x1, .i32⟩) main_call1_v6) (TRef.of (T := ⟨S16x16x16x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16x16x16x1, .i32⟩) main_call1_v9) (broadcastInDim S16x16x16x1 ![0, 1, 2, 3] bcast_S1x1x1x1_S16x16x16x1_0_1_2_3),
    TRef.binary (TRef.of (T := ⟨S16x16x16x1, .i32⟩) main_call1_v5) (TRef.of (T := ⟨S16x16x16x1, .i32⟩) main_call1_v9) (TRef.of (T := ⟨S16x16x16x1, .i1⟩) main_call1_v10) (cmpi .sle),
    TRef.binary (TRef.of (T := ⟨S16x16x16x1, .i1⟩) main_call1_v7) (TRef.of (T := ⟨S16x16x16x1, .i1⟩) main_call1_v10) (TRef.of (T := ⟨S16x16x16x1, .i1⟩) main_call1_v11) andi,
    TRef.nullary (TRef.of (T := ⟨S_, .i1⟩) main_call1_c_3) (constantI S_ 1 1#1),
    TRef.binary (TRef.of (T := ⟨S16x16x16x1, .i1⟩) main_call1_v11) (TRef.of (T := ⟨S_, .i1⟩) main_call1_c_3) (TRef.of (T := ⟨S16x16x16, .i1⟩) main_call1_v12) (fun x v => Host.reduce IntOp.andi x v reducesTo_S16x16x16x1_S16x16x16_d3 h_S_),
    TRef.binary (TRef.of (T := ⟨S1x16x16x16, .f32⟩) main_v21) (TRef.of (T := ⟨S16x16x16x1, .i32⟩) main_call1_v5) (TRef.of (T := ⟨S1x16x16x16, .f32⟩) main_call1_v13) (fun x i => Host.gather gather_S1x16x16x16_S16x16x16x1_S1x16x16x16_0_3_12_01_3_3_1111 x i),
    TRef.unary (TRef.of (T := ⟨S16x16x16, .i1⟩) main_call1_v12) (TRef.of (T := ⟨S1x16x16x16, .i1⟩) main_call1_v14) (broadcastInDim S1x16x16x16 ![1, 2, 3] bcast_S16x16x16_S1x16x16x16_1_2_3),
    TRef.nullary (TRef.of (T := ⟨S_, .f32⟩) main_call1_cst) (constant S_ .f32 0x7FC00000#32),
    TRef.unary (TRef.of (T := ⟨S_, .f32⟩) main_call1_cst) (TRef.of (T := ⟨S1x16x16x16, .f32⟩) main_call1_v15) (broadcastInDim S1x16x16x16 ![] bcast_S_S1x16x16x16),
    TRef.ternary (TRef.of (T := ⟨S1x16x16x16, .i1⟩) main_call1_v14) (TRef.of (T := ⟨S1x16x16x16, .f32⟩) main_call1_v13) (TRef.of (T := ⟨S1x16x16x16, .f32⟩) main_call1_v15) (TRef.of (T := ⟨S1x16x16x16, .f32⟩) main_v24) select ]

/-- The operations that make the running sums. -/
abbrev ops_cum : List (HloOp τ sig (Elt F)) :=
  [ TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S1x16x16x16, .f32⟩) main_v24) (TRef.of (T := ⟨S_, .f32⟩) main_call2_call0_v0) (TRef.of (T := ⟨S1x16x16x16, .f32⟩) main_v25) (fun x v => Host.reduceWindowAdd ![1, 1, 1, 16] ![1, 1, 1, 1] ![0, 0, 0, 15] ![0, 0, 0, 0] x v reduceWindows_S1x16x16x16_S1x16x16x16_w1s1p0_0_w1s1p0_0_w1s1p0_0_w16s1p15_0 h_S_) ]

/-- The operations that make the last running sum. -/
abbrev ops_total : List (HloOp τ sig (Elt F)) :=
  [ unary main_v25 main_v26 ((extractStridedSlice S1x16x16x1 ![0, 0, 0, 15] · slices_S1x16x16x16_S1x16x16x1_0_0_0_15) : (⟨S1x16x16x16, .f32⟩ : BufTy).Contents (Elt F) → (⟨S1x16x16x1, .f32⟩ : BufTy).Contents (Elt F)) ]

/-- The operations that make the first position whose running sum reaches the threshold. -/
abbrev ops_first : List (HloOp τ sig (Elt F)) :=
  [ nullary main_cst_7 (constant S_ .f32 0x3F733333#32),
    unary main_cst_7 main_v27 (broadcastInDim S1x16x16x1 ![] bcast_S_S1x16x16x1 : (⟨S_, .f32⟩ : BufTy).Contents (Elt F) → (⟨S1x16x16x1, .f32⟩ : BufTy).Contents (Elt F)),
    binary main_v27 main_v26 main_v28 (mulf : (⟨S1x16x16x1, .f32⟩ : BufTy).Contents (Elt F) → (⟨S1x16x16x1, .f32⟩ : BufTy).Contents (Elt F) → (⟨S1x16x16x1, .f32⟩ : BufTy).Contents (Elt F)),
    unary main_v28 main_v29 (broadcastInDim S1x16x16x16 ![0, 1, 2, 3] bcast_S1x16x16x1_S1x16x16x16_0_1_2_3 : (⟨S1x16x16x1, .f32⟩ : BufTy).Contents (Elt F) → (⟨S1x16x16x16, .f32⟩ : BufTy).Contents (Elt F)),
    binary main_v25 main_v29 main_v30 (cmpf .oge : (⟨S1x16x16x16, .f32⟩ : BufTy).Contents (Elt F) → (⟨S1x16x16x16, .f32⟩ : BufTy).Contents (Elt F) → (⟨S1x16x16x16, .i1⟩ : BufTy).Contents (Elt F)),
    unary main_v30 main_v31 ((extui 32 · natLt_1_32) : (⟨S1x16x16x16, .i1⟩ : BufTy).Contents (Elt F) → (⟨S1x16x16x16, .i32⟩ : BufTy).Contents (Elt F)),
    TRef.nullary (TRef.of (T := ⟨S1x16x16x16, .i32⟩) main_call3_v0) (iotaInDim S1x16x16x16 32 3),
    TRef.nullary (TRef.of (T := ⟨S_, .i32⟩) main_call3_c) (constantI S_ 32 2147483648#32),
    TRef.nullary (TRef.of (T := ⟨S_, .i32⟩) main_call3_c_0) (constantI S_ 32 0#32),
    TRef.quaternary (TRef.of (T := ⟨S1x16x16x16, .i32⟩) main_v31) (TRef.of (T := ⟨S1x16x16x16, .i32⟩) main_call3_v0) (TRef.of (T := ⟨S_, .i32⟩) main_call3_c) (TRef.of (T := ⟨S_, .i32⟩) main_call3_c_0) (TRef.of (T := ⟨S1x16x16, .i32⟩) main_call3_v1_0) (fun x y u v j => (Host.reduce2 reducer_argmax_i32_i32 x y u v reducesTo_S1x16x16x16_S1x16x16_d3 h_S_ j).1),
    TRef.quaternary (TRef.of (T := ⟨S1x16x16x16, .i32⟩) main_v31) (TRef.of (T := ⟨S1x16x16x16, .i32⟩) main_call3_v0) (TRef.of (T := ⟨S_, .i32⟩) main_call3_c) (TRef.of (T := ⟨S_, .i32⟩) main_call3_c_0) (TRef.of (T := ⟨S1x16x16, .i32⟩) main_v32) (fun x y u v j => (Host.reduce2 reducer_argmax_i32_i32 x y u v reducesTo_S1x16x16x16_S1x16x16_d3 h_S_ j).2) ]

/-- The operations that make the number of blocks kept, clipped. -/
abbrev ops_count : List (HloOp τ sig (Elt F)) :=
  [ unary main_v25 main_v33 ((extractStridedSlice S1x16x16x1 ![0, 0, 0, 15] · slices_S1x16x16x16_S1x16x16x1_0_0_0_15) : (⟨S1x16x16x16, .f32⟩ : BufTy).Contents (Elt F) → (⟨S1x16x16x1, .f32⟩ : BufTy).Contents (Elt F)),
    reshape main_v33 main_v34 (rfl : (.f32 : EltTy) = .f32) shapeCasts_S1x16x16x1_S1x16x16,
    reshape main_v26 main_v35 (rfl : (.f32 : EltTy) = .f32) shapeCasts_S1x16x16x1_S1x16x16,
    nullary main_cst_8 (constant S_ .f32 0x3F733333#32),
    unary main_cst_8 main_v36 (broadcastInDim S1x16x16 ![] bcast_S_S1x16x16 : (⟨S_, .f32⟩ : BufTy).Contents (Elt F) → (⟨S1x16x16, .f32⟩ : BufTy).Contents (Elt F)),
    binary main_v36 main_v35 main_v37 (mulf : (⟨S1x16x16, .f32⟩ : BufTy).Contents (Elt F) → (⟨S1x16x16, .f32⟩ : BufTy).Contents (Elt F) → (⟨S1x16x16, .f32⟩ : BufTy).Contents (Elt F)),
    binary main_v34 main_v37 main_v38 (cmpf .olt : (⟨S1x16x16, .f32⟩ : BufTy).Contents (Elt F) → (⟨S1x16x16, .f32⟩ : BufTy).Contents (Elt F) → (⟨S1x16x16, .i1⟩ : BufTy).Contents (Elt F)),
    nullary main_c (constantI S_ 32 16#32),
    TRef.unary (TRef.of (T := ⟨S_, .i32⟩) main_c) (TRef.of (T := ⟨S_, .i32⟩) main_call4_v0) id,
    TRef.unary (TRef.of (T := ⟨S_, .i32⟩) main_call4_v0) (TRef.of (T := ⟨S1x16x16, .i32⟩) main_call4_v1) (broadcastInDim S1x16x16 ![] bcast_S_S1x16x16),
    TRef.ternary (TRef.of (T := ⟨S1x16x16, .i1⟩) main_v38) (TRef.of (T := ⟨S1x16x16, .i32⟩) main_call4_v1) (TRef.of (T := ⟨S1x16x16, .i32⟩) main_v32) (TRef.of (T := ⟨S1x16x16, .i32⟩) main_v39) select,
    nullary main_c_9 (constantI S_ 32 1#32),
    nullary main_c_10 (constantI S_ 32 11#32),
    TRef.unary (TRef.of (T := ⟨S_, .i32⟩) main_c_9) (TRef.of (T := ⟨S_, .i32⟩) main_call5_v0) id,
    TRef.unary (TRef.of (T := ⟨S_, .i32⟩) main_call5_v0) (TRef.of (T := ⟨S1x16x16, .i32⟩) main_call5_v1) (broadcastInDim S1x16x16 ![] bcast_S_S1x16x16),
    TRef.binary (TRef.of (T := ⟨S1x16x16, .i32⟩) main_call5_v1) (TRef.of (T := ⟨S1x16x16, .i32⟩) main_v39) (TRef.of (T := ⟨S1x16x16, .i32⟩) main_call5_v2) maxsi,
    TRef.unary (TRef.of (T := ⟨S_, .i32⟩) main_c_10) (TRef.of (T := ⟨S_, .i32⟩) main_call5_v3) id,
    TRef.unary (TRef.of (T := ⟨S_, .i32⟩) main_call5_v3) (TRef.of (T := ⟨S1x16x16, .i32⟩) main_call5_v4) (broadcastInDim S1x16x16 ![] bcast_S_S1x16x16),
    TRef.binary (TRef.of (T := ⟨S1x16x16, .i32⟩) main_call5_v4) (TRef.of (T := ⟨S1x16x16, .i32⟩) main_call5_v2) (TRef.of (T := ⟨S1x16x16, .i32⟩) main_v40) minsi ]

/-- The operations that make which sorted positions are kept. -/
abbrev ops_kept : List (HloOp τ sig (Elt F)) :=
  [ nullary main_v41 (iotaInDim S16 32 0),
    unary main_v41 main_v42 (broadcastInDim S1x1x1x16 ![3] bcast_S16_S1x1x1x16_3 : (⟨S16, .i32⟩ : BufTy).Contents (Elt F) → (⟨S1x1x1x16, .i32⟩ : BufTy).Contents (Elt F)),
    unary main_v40 main_v43 (broadcastInDim S1x16x16x1 ![0, 1, 2] bcast_S1x16x16_S1x16x16x1_0_1_2 : (⟨S1x16x16, .i32⟩ : BufTy).Contents (Elt F) → (⟨S1x16x16x1, .i32⟩ : BufTy).Contents (Elt F)),
    unary main_v42 main_v44 (broadcastInDim S1x16x16x16 ![0, 1, 2, 3] bcast_S1x1x1x16_S1x16x16x16_0_1_2_3 : (⟨S1x1x1x16, .i32⟩ : BufTy).Contents (Elt F) → (⟨S1x16x16x16, .i32⟩ : BufTy).Contents (Elt F)),
    unary main_v43 main_v45 (broadcastInDim S1x16x16x16 ![0, 1, 2, 3] bcast_S1x16x16x1_S1x16x16x16_0_1_2_3 : (⟨S1x16x16x1, .i32⟩ : BufTy).Contents (Elt F) → (⟨S1x16x16x16, .i32⟩ : BufTy).Contents (Elt F)),
    binary main_v44 main_v45 main_v46 (cmpi .slt : (⟨S1x16x16x16, .i32⟩ : BufTy).Contents (Elt F) → (⟨S1x16x16x16, .i32⟩ : BufTy).Contents (Elt F) → (⟨S1x16x16x16, .i1⟩ : BufTy).Contents (Elt F)) ]

/-- The operations that make the inverse order. -/
abbrev ops_inverse : List (HloOp τ sig (Elt F)) :=
  [ TRef.nullary (TRef.of (T := ⟨S1x16x16x16, .i32⟩) main_call6_v0) (iotaInDim S1x16x16x16 32 3),
    TRef.binary (TRef.of (T := ⟨S1x16x16x16, .i32⟩) main_v23) (TRef.of (T := ⟨S1x16x16x16, .i32⟩) main_call6_v0) (TRef.of (T := ⟨S1x16x16x16, .i32⟩) main_call6_v1_0) (fun x y => (Host.sort2 S1x16x16x16 3 comparator_i32_i32_d3 x y).1),
    TRef.binary (TRef.of (T := ⟨S1x16x16x16, .i32⟩) main_v23) (TRef.of (T := ⟨S1x16x16x16, .i32⟩) main_call6_v0) (TRef.of (T := ⟨S1x16x16x16, .i32⟩) main_v47) (fun x y => (Host.sort2 S1x16x16x16 3 comparator_i32_i32_d3 x y).2) ]

/-- The operations that make the inverse order with negative ones wrapped, as an index column. -/
abbrev ops_wrapI : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S1x16x16x16, .i32⟩) main_call7_v0) (broadcastInDim S1x16x16x16 ![] bcast_S_S1x16x16x16),
    TRef.binary (TRef.of (T := ⟨S1x16x16x16, .i32⟩) main_v47) (TRef.of (T := ⟨S1x16x16x16, .i32⟩) main_call7_v0) (TRef.of (T := ⟨S1x16x16x16, .i1⟩) main_call7_v1) (cmpi .slt),
    TRef.nullary (TRef.of (T := ⟨S_, .i32⟩) main_call7_c_0) (constantI S_ 32 16#32),
    TRef.unary (TRef.of (T := ⟨S_, .i32⟩) main_call7_c_0) (TRef.of (T := ⟨S1x16x16x16, .i32⟩) main_call7_v2) (broadcastInDim S1x16x16x16 ![] bcast_S_S1x16x16x16),
    TRef.binary (TRef.of (T := ⟨S1x16x16x16, .i32⟩) main_v47) (TRef.of (T := ⟨S1x16x16x16, .i32⟩) main_call7_v2) (TRef.of (T := ⟨S1x16x16x16, .i32⟩) main_call7_v3) addi,
    TRef.ternary (TRef.of (T := ⟨S1x16x16x16, .i1⟩) main_call7_v1) (TRef.of (T := ⟨S1x16x16x16, .i32⟩) main_call7_v3) (TRef.of (T := ⟨S1x16x16x16, .i32⟩) main_v47) (TRef.of (T := ⟨S1x16x16x16, .i32⟩) main_call7_v4) select,
    TRef.reshape (TRef.of (T := ⟨S1x16x16x16, .i32⟩) main_call7_v4) (TRef.of (T := ⟨S16x16x16x1, .i32⟩) main_call7_v5) (rfl : (.i32 : EltTy) = .i32) shapeCasts_S1x16x16x16_S16x16x16x1 ]

/-- The operations that make the block mask. -/
abbrev ops_blockMask : List (HloOp τ sig (Elt F)) :=
  [ TRef.nullary (TRef.of (T := ⟨S1, .i32⟩) main_call7_c_1) (constantI S1 32 15#32),
    TRef.nullary (TRef.of (T := ⟨S_, .i32⟩) main_call7_c_2) (constantI S_ 32 0#32),
    TRef.unary (TRef.of (T := ⟨S_, .i32⟩) main_call7_c_2) (TRef.of (T := ⟨S16x16x16x1, .i32⟩) main_call7_v6) (broadcastInDim S16x16x16x1 ![] bcast_S_S16x16x16x1),
    TRef.binary (TRef.of (T := ⟨S16x16x16x1, .i32⟩) main_call7_v5) (TRef.of (T := ⟨S16x16x16x1, .i32⟩) main_call7_v6) (TRef.of (T := ⟨S16x16x16x1, .i1⟩) main_call7_v7) (cmpi .sge),
    TRef.unary (TRef.of (T := ⟨S1, .i32⟩) main_call7_c_1) (TRef.of (T := ⟨S1x1x1x1, .i32⟩) main_call7_v8) (broadcastInDim S1x1x1x1 ![3] bcast_S1_S1x1x1x1_3),
    TRef.unary (TRef.of (T := ⟨S1x1x1x1, .i32⟩) main_call7_v8) (TRef.of (T := ⟨S16x16x16x1, .i32⟩) main_call7_v9) (broadcastInDim S16x16x16x1 ![0, 1, 2, 3] bcast_S1x1x1x1_S16x16x16x1_0_1_2_3),
    TRef.binary (TRef.of (T := ⟨S16x16x16x1, .i32⟩) main_call7_v5) (TRef.of (T := ⟨S16x16x16x1, .i32⟩) main_call7_v9) (TRef.of (T := ⟨S16x16x16x1, .i1⟩) main_call7_v10) (cmpi .sle),
    TRef.binary (TRef.of (T := ⟨S16x16x16x1, .i1⟩) main_call7_v7) (TRef.of (T := ⟨S16x16x16x1, .i1⟩) main_call7_v10) (TRef.of (T := ⟨S16x16x16x1, .i1⟩) main_call7_v11) andi,
    TRef.nullary (TRef.of (T := ⟨S_, .i1⟩) main_call7_c_3) (constantI S_ 1 1#1),
    TRef.binary (TRef.of (T := ⟨S16x16x16x1, .i1⟩) main_call7_v11) (TRef.of (T := ⟨S_, .i1⟩) main_call7_c_3) (TRef.of (T := ⟨S16x16x16, .i1⟩) main_call7_v12) (fun x v => Host.reduce IntOp.andi x v reducesTo_S16x16x16x1_S16x16x16_d3 h_S_),
    TRef.binary (TRef.of (T := ⟨S1x16x16x16, .i1⟩) main_v46) (TRef.of (T := ⟨S16x16x16x1, .i32⟩) main_call7_v5) (TRef.of (T := ⟨S1x16x16x16, .i1⟩) main_call7_v13) (fun x i => Host.gather gather_S1x16x16x16_S16x16x16x1_S1x16x16x16_0_3_12_01_3_3_1111 x i),
    TRef.unary (TRef.of (T := ⟨S16x16x16, .i1⟩) main_call7_v12) (TRef.of (T := ⟨S1x16x16x16, .i1⟩) main_call7_v14) (broadcastInDim S1x16x16x16 ![1, 2, 3] bcast_S16x16x16_S1x16x16x16_1_2_3),
    TRef.nullary (TRef.of (T := ⟨S_, .i1⟩) main_call7_c_4) (constantI S_ 1 1#1),
    TRef.unary (TRef.of (T := ⟨S_, .i1⟩) main_call7_c_4) (TRef.of (T := ⟨S1x16x16x16, .i1⟩) main_call7_v15) (broadcastInDim S1x16x16x16 ![] bcast_S_S1x16x16x16),
    TRef.ternary (TRef.of (T := ⟨S1x16x16x16, .i1⟩) main_call7_v14) (TRef.of (T := ⟨S1x16x16x16, .i1⟩) main_call7_v13) (TRef.of (T := ⟨S1x16x16x16, .i1⟩) main_call7_v15) (TRef.of (T := ⟨S1x16x16x16, .i1⟩) main_v48) select ]

/-- The operations that make the mask repeated over the rows and columns of each block. -/
abbrev ops_fullMask : List (HloOp τ sig (Elt F)) :=
  [ unary main_v48 main_v49 (broadcastInDim S1x16x16x128x16 ![0, 1, 2, 4] bcast_S1x16x16x16_S1x16x16x128x16_0_1_2_4 : (⟨S1x16x16x16, .i1⟩ : BufTy).Contents (Elt F) → (⟨S1x16x16x128x16, .i1⟩ : BufTy).Contents (Elt F)),
    reshape main_v49 main_v50 (rfl : (.i1 : EltTy) = .i1) shapeCasts_S1x16x16x128x16_S1x16x2048x16,
    unary main_v50 main_v51 (broadcastInDim S1x16x2048x16x128 ![0, 1, 2, 3] bcast_S1x16x2048x16_S1x16x2048x16x128_0_1_2_3 : (⟨S1x16x2048x16, .i1⟩ : BufTy).Contents (Elt F) → (⟨S1x16x2048x16x128, .i1⟩ : BufTy).Contents (Elt F)),
    reshape main_v51 main_v52 (rfl : (.i1 : EltTy) = .i1) shapeCasts_S1x16x2048x16x128_S1x16x2048x2048 ]

/-- The operations that make the scores with the dropped blocks at minus infinity. -/
abbrev ops_masked : List (HloOp τ sig (Elt F)) :=
  [ binary main_arg0 main_arg1 main_v53 ((fun l r => Host.dotGeneral dot_S1x16x2048x128_S1x16x2048x128_S1x16x2048x2048_3_3_2_2_01_01 none l r) : (⟨S1x16x2048x128, .f32⟩ : BufTy).Contents (Elt F) → (⟨S1x16x2048x128, .f32⟩ : BufTy).Contents (Elt F) → (⟨S1x16x2048x2048, .f32⟩ : BufTy).Contents (Elt F)),
    nullary main_cst_11 (constant S_ .f32 0x3DB504F3#32),
    unary main_cst_11 main_v54 (broadcastInDim S1x16x2048x2048 ![] bcast_S_S1x16x2048x2048 : (⟨S_, .f32⟩ : BufTy).Contents (Elt F) → (⟨S1x16x2048x2048, .f32⟩ : BufTy).Contents (Elt F)),
    binary main_v53 main_v54 main_v55 (mulf : (⟨S1x16x2048x2048, .f32⟩ : BufTy).Contents (Elt F) → (⟨S1x16x2048x2048, .f32⟩ : BufTy).Contents (Elt F) → (⟨S1x16x2048x2048, .f32⟩ : BufTy).Contents (Elt F)),
    nullary main_cst_12 (constant S_ .f32 0xFF800000#32),
    TRef.unary (TRef.of (T := ⟨S_, .f32⟩) main_cst_12) (TRef.of (T := ⟨S_, .f32⟩) main_call8_v0) id,
    TRef.unary (TRef.of (T := ⟨S_, .f32⟩) main_call8_v0) (TRef.of (T := ⟨S1x16x2048x2048, .f32⟩) main_call8_v1) (broadcastInDim S1x16x2048x2048 ![] bcast_S_S1x16x2048x2048),
    TRef.ternary (TRef.of (T := ⟨S1x16x2048x2048, .i1⟩) main_v52) (TRef.of (T := ⟨S1x16x2048x2048, .f32⟩) main_v55) (TRef.of (T := ⟨S1x16x2048x2048, .f32⟩) main_call8_v1) (TRef.of (T := ⟨S1x16x2048x2048, .f32⟩) main_v56) select ]

/-- The operations that make the exponentials of the masked scores less their row maximum. -/
abbrev ops_weights : List (HloOp τ sig (Elt F)) :=
  [ nullary main_cst_13 (constant S_ .f32 0xFF800000#32),
    binary main_v56 main_cst_13 main_v57 ((fun x v => Host.reduce FloatOps.maximumf x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    nullary main_cst_14 (constant S_ .f32 0xFF800000#32),
    unary main_cst_14 main_v58 (broadcastInDim S1x16x2048 ![] bcast_S_S1x16x2048 : (⟨S_, .f32⟩ : BufTy).Contents (Elt F) → (⟨S1x16x2048, .f32⟩ : BufTy).Contents (Elt F)),
    binary main_v58 main_v57 main_v59 (maximumf : (⟨S1x16x2048, .f32⟩ : BufTy).Contents (Elt F) → (⟨S1x16x2048, .f32⟩ : BufTy).Contents (Elt F) → (⟨S1x16x2048, .f32⟩ : BufTy).Contents (Elt F)),
    unary main_v59 main_v60 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v60 main_v61 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    binary main_v56 main_v61 main_v62 (subf : (⟨S1x16x2048x2048, .f32⟩ : BufTy).Contents (Elt F) → (⟨S1x16x2048x2048, .f32⟩ : BufTy).Contents (Elt F) → (⟨S1x16x2048x2048, .f32⟩ : BufTy).Contents (Elt F)),
    unary main_v62 main_v63 (Host.exp : (⟨S1x16x2048x2048, .f32⟩ : BufTy).Contents (Elt F) → (⟨S1x16x2048x2048, .f32⟩ : BufTy).Contents (Elt F)) ]

/-- The operations that make the attention weights. -/
abbrev ops_probs : List (HloOp τ sig (Elt F)) :=
  [ nullary main_cst_15 (constant S_ .f32 0x00000000#32),
    binary main_v63 main_cst_15 main_v64 ((fun x v => Host.reduceAdd x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    unary main_v64 main_v65 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v65 main_v66 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    binary main_v63 main_v66 main_v67 (Host.divf : (⟨S1x16x2048x2048, .f32⟩ : BufTy).Contents (Elt F) → (⟨S1x16x2048x2048, .f32⟩ : BufTy).Contents (Elt F) → (⟨S1x16x2048x2048, .f32⟩ : BufTy).Contents (Elt F)) ]

/-- The operations that make the weighted sum of the values. -/
abbrev ops_attended : List (HloOp τ sig (Elt F)) :=
  [ binary main_v67 main_arg2 main_v68 ((fun l r => Host.dotGeneral dot_S1x16x2048x2048_S1x16x2048x128_S1x16x2048x128_3_2_2_3_01_01 none l r) : (⟨S1x16x2048x2048, .f32⟩ : BufTy).Contents (Elt F) → (⟨S1x16x2048x128, .f32⟩ : BufTy).Contents (Elt F) → (⟨S1x16x2048x128, .f32⟩ : BufTy).Contents (Elt F)) ]

/-- The pooled scores, scaled, as a function of what it reads. -/
def poolScores (x_arg0 : (⟨S1x16x2048x128, .f32⟩ : BufTy).Contents (Elt F)) (x_arg1 : (⟨S1x16x2048x128, .f32⟩ : BufTy).Contents (Elt F)) : (⟨S1x16x16x16, .f32⟩ : BufTy).Contents (Elt F) :=
  mulf (Host.dotGeneral dot_S1x16x16x128_S1x16x16x128_S1x16x16x16_3_3_2_2_01_01 none (Host.divf (Host.reduceAdd (shapeCast _ x_arg0 shapeCasts_S1x16x2048x128_S1x16x16x128x128) (constant S_ .f32 0x00000000#32) reducesTo_S1x16x16x128x128_S1x16x16x128_d3 h_S_) ((broadcastInDim S1x16x16x128 ![] bcast_S_S1x16x16x128) (constant S_ .f32 0x43000000#32))) (Host.divf (Host.reduceAdd (shapeCast _ x_arg1 shapeCasts_S1x16x2048x128_S1x16x16x128x128) (constant S_ .f32 0x00000000#32) reducesTo_S1x16x16x128x128_S1x16x16x128_d3 h_S_) ((broadcastInDim S1x16x16x128 ![] bcast_S_S1x16x16x128) (constant S_ .f32 0x43000000#32)))) ((broadcastInDim S1x16x16x16 ![] bcast_S_S1x16x16x16) (constant S_ .f32 0x3DB504F3#32))

/-- The exponentials of the pooled scores less their row maximum, as a function of what it reads. -/
def poolExp (x_v10 : (⟨S1x16x16x16, .f32⟩ : BufTy).Contents (Elt F)) : (⟨S1x16x16x16, .f32⟩ : BufTy).Contents (Elt F) :=
  Host.exp (subf x_v10 ((broadcastInDim S1x16x16x16 ![0, 1, 2, 3] bcast_S1x16x16x1_S1x16x16x16_0_1_2_3) ((broadcastInDim S1x16x16x1 ![0, 1, 2] bcast_S1x16x16_S1x16x16x1_0_1_2) (maximumf ((broadcastInDim S1x16x16 ![] bcast_S_S1x16x16) (constant S_ .f32 0xFF800000#32)) (Host.reduce FloatOps.maximumf x_v10 (constant S_ .f32 0xFF800000#32) reducesTo_S1x16x16x16_S1x16x16_d3 h_S_)))))

/-- The pooled softmax, as a function of what it reads. -/
def poolProbs (x_v17 : (⟨S1x16x16x16, .f32⟩ : BufTy).Contents (Elt F)) : (⟨S1x16x16x16, .f32⟩ : BufTy).Contents (Elt F) :=
  Host.divf x_v17 ((broadcastInDim S1x16x16x16 ![0, 1, 2, 3] bcast_S1x16x16x1_S1x16x16x16_0_1_2_3) ((broadcastInDim S1x16x16x1 ![0, 1, 2] bcast_S1x16x16_S1x16x16x1_0_1_2) (Host.reduceAdd x_v17 (constant S_ .f32 0x00000000#32) reducesTo_S1x16x16x16_S1x16x16_d3 h_S_)))

/-- The positions in decreasing order of probability, as a function of what it reads. -/
def order (x_v21 : (⟨S1x16x16x16, .f32⟩ : BufTy).Contents (Elt F)) : (⟨S1x16x16x16, .i32⟩ : BufTy).Contents (Elt F) :=
  (Host.sort2 S1x16x16x16 3 comparator_f32_i32_d3 (Host.negf x_v21) (iotaInDim S1x16x16x16 32 3)).2

/-- The positions with negative ones wrapped, as an index column, as a function of what it reads. -/
def wrapF (x_v23 : (⟨S1x16x16x16, .i32⟩ : BufTy).Contents (Elt F)) : (⟨S16x16x16x1, .i32⟩ : BufTy).Contents (Elt F) :=
  shapeCast _ (select ((cmpi .slt) x_v23 ((broadcastInDim S1x16x16x16 ![] bcast_S_S1x16x16x16) (constantI S_ 32 0#32))) (addi x_v23 ((broadcastInDim S1x16x16x16 ![] bcast_S_S1x16x16x16) (constantI S_ 32 16#32))) x_v23) shapeCasts_S1x16x16x16_S16x16x16x1

/-- The probabilities taken in that order, as a function of what it reads. -/
def sorted (x_call1_v5 : (⟨S16x16x16x1, .i32⟩ : BufTy).Contents (Elt F)) (x_v21 : (⟨S1x16x16x16, .f32⟩ : BufTy).Contents (Elt F)) : (⟨S1x16x16x16, .f32⟩ : BufTy).Contents (Elt F) :=
  select ((broadcastInDim S1x16x16x16 ![1, 2, 3] bcast_S16x16x16_S1x16x16x16_1_2_3) (Host.reduce IntOp.andi (andi ((cmpi .sge) x_call1_v5 ((broadcastInDim S16x16x16x1 ![] bcast_S_S16x16x16x1) (constantI S_ 32 0#32))) ((cmpi .sle) x_call1_v5 ((broadcastInDim S16x16x16x1 ![0, 1, 2, 3] bcast_S1x1x1x1_S16x16x16x1_0_1_2_3) ((broadcastInDim S1x1x1x1 ![3] bcast_S1_S1x1x1x1_3) (constantI S1 32 15#32))))) (constantI S_ 1 1#1) reducesTo_S16x16x16x1_S16x16x16_d3 h_S_)) (Host.gather gather_S1x16x16x16_S16x16x16x1_S1x16x16x16_0_3_12_01_3_3_1111 x_v21 x_call1_v5) ((broadcastInDim S1x16x16x16 ![] bcast_S_S1x16x16x16) (constant S_ .f32 0x7FC00000#32))

/-- The running sums, as a function of what it reads. -/
def cum (x_v24 : (⟨S1x16x16x16, .f32⟩ : BufTy).Contents (Elt F)) : (⟨S1x16x16x16, .f32⟩ : BufTy).Contents (Elt F) :=
  Host.reduceWindowAdd ![1, 1, 1, 16] ![1, 1, 1, 1] ![0, 0, 0, 15] ![0, 0, 0, 0] x_v24 ((broadcastInDim S_ ![] bcast_S_S_) (constant S_ .f32 0x00000000#32)) reduceWindows_S1x16x16x16_S1x16x16x16_w1s1p0_0_w1s1p0_0_w1s1p0_0_w16s1p15_0 h_S_

/-- The last running sum, as a function of what it reads. -/
def total (x_v25 : (⟨S1x16x16x16, .f32⟩ : BufTy).Contents (Elt F)) : (⟨S1x16x16x1, .f32⟩ : BufTy).Contents (Elt F) :=
  extractStridedSlice S1x16x16x1 ![0, 0, 0, 15] x_v25 slices_S1x16x16x16_S1x16x16x1_0_0_0_15

/-- The first position whose running sum reaches the threshold, as a function of what it reads. -/
def first (x_v26 : (⟨S1x16x16x1, .f32⟩ : BufTy).Contents (Elt F)) (x_v25 : (⟨S1x16x16x16, .f32⟩ : BufTy).Contents (Elt F)) : (⟨S1x16x16, .i32⟩ : BufTy).Contents (Elt F) :=
  fun j => (Host.reduce2 reducer_argmax_i32_i32 (extui 32 ((cmpf .oge) x_v25 ((broadcastInDim S1x16x16x16 ![0, 1, 2, 3] bcast_S1x16x16x1_S1x16x16x16_0_1_2_3) (mulf ((broadcastInDim S1x16x16x1 ![] bcast_S_S1x16x16x1) (constant S_ .f32 0x3F733333#32)) x_v26))) natLt_1_32) (iotaInDim S1x16x16x16 32 3) (constantI S_ 32 2147483648#32) (constantI S_ 32 0#32) reducesTo_S1x16x16x16_S1x16x16_d3 h_S_ j).2

/-- The number of blocks kept, clipped, as a function of what it reads. -/
def count (x_v25 : (⟨S1x16x16x16, .f32⟩ : BufTy).Contents (Elt F)) (x_v26 : (⟨S1x16x16x1, .f32⟩ : BufTy).Contents (Elt F)) (x_v32 : (⟨S1x16x16, .i32⟩ : BufTy).Contents (Elt F)) : (⟨S1x16x16, .i32⟩ : BufTy).Contents (Elt F) :=
  minsi ((broadcastInDim S1x16x16 ![] bcast_S_S1x16x16) (constantI S_ 32 11#32)) (maxsi ((broadcastInDim S1x16x16 ![] bcast_S_S1x16x16) (constantI S_ 32 1#32)) (select ((cmpf .olt) (shapeCast _ (extractStridedSlice S1x16x16x1 ![0, 0, 0, 15] x_v25 slices_S1x16x16x16_S1x16x16x1_0_0_0_15) shapeCasts_S1x16x16x1_S1x16x16) (mulf ((broadcastInDim S1x16x16 ![] bcast_S_S1x16x16) (constant S_ .f32 0x3F733333#32)) (shapeCast _ x_v26 shapeCasts_S1x16x16x1_S1x16x16))) ((broadcastInDim S1x16x16 ![] bcast_S_S1x16x16) (constantI S_ 32 16#32)) x_v32))

/-- Which sorted positions are kept, as a function of what it reads. -/
def kept (x_v40 : (⟨S1x16x16, .i32⟩ : BufTy).Contents (Elt F)) : (⟨S1x16x16x16, .i1⟩ : BufTy).Contents (Elt F) :=
  (cmpi .slt) ((broadcastInDim S1x16x16x16 ![0, 1, 2, 3] bcast_S1x1x1x16_S1x16x16x16_0_1_2_3) ((broadcastInDim S1x1x1x16 ![3] bcast_S16_S1x1x1x16_3) (iotaInDim S16 32 0))) ((broadcastInDim S1x16x16x16 ![0, 1, 2, 3] bcast_S1x16x16x1_S1x16x16x16_0_1_2_3) ((broadcastInDim S1x16x16x1 ![0, 1, 2] bcast_S1x16x16_S1x16x16x1_0_1_2) x_v40))

/-- The inverse order, as a function of what it reads. -/
def inverse (x_v23 : (⟨S1x16x16x16, .i32⟩ : BufTy).Contents (Elt F)) : (⟨S1x16x16x16, .i32⟩ : BufTy).Contents (Elt F) :=
  (Host.sort2 S1x16x16x16 3 comparator_i32_i32_d3 x_v23 (iotaInDim S1x16x16x16 32 3)).2

/-- The inverse order with negative ones wrapped, as an index column, as a function of what it reads. -/
def wrapI (x_v47 : (⟨S1x16x16x16, .i32⟩ : BufTy).Contents (Elt F)) : (⟨S16x16x16x1, .i32⟩ : BufTy).Contents (Elt F) :=
  shapeCast _ (select ((cmpi .slt) x_v47 ((broadcastInDim S1x16x16x16 ![] bcast_S_S1x16x16x16) (constantI S_ 32 0#32))) (addi x_v47 ((broadcastInDim S1x16x16x16 ![] bcast_S_S1x16x16x16) (constantI S_ 32 16#32))) x_v47) shapeCasts_S1x16x16x16_S16x16x16x1

/-- The block mask, as a function of what it reads. -/
def blockMask (x_call7_v5 : (⟨S16x16x16x1, .i32⟩ : BufTy).Contents (Elt F)) (x_v46 : (⟨S1x16x16x16, .i1⟩ : BufTy).Contents (Elt F)) : (⟨S1x16x16x16, .i1⟩ : BufTy).Contents (Elt F) :=
  select ((broadcastInDim S1x16x16x16 ![1, 2, 3] bcast_S16x16x16_S1x16x16x16_1_2_3) (Host.reduce IntOp.andi (andi ((cmpi .sge) x_call7_v5 ((broadcastInDim S16x16x16x1 ![] bcast_S_S16x16x16x1) (constantI S_ 32 0#32))) ((cmpi .sle) x_call7_v5 ((broadcastInDim S16x16x16x1 ![0, 1, 2, 3] bcast_S1x1x1x1_S16x16x16x1_0_1_2_3) ((broadcastInDim S1x1x1x1 ![3] bcast_S1_S1x1x1x1_3) (constantI S1 32 15#32))))) (constantI S_ 1 1#1) reducesTo_S16x16x16x1_S16x16x16_d3 h_S_)) (Host.gather gather_S1x16x16x16_S16x16x16x1_S1x16x16x16_0_3_12_01_3_3_1111 x_v46 x_call7_v5) ((broadcastInDim S1x16x16x16 ![] bcast_S_S1x16x16x16) (constantI S_ 1 1#1))

/-- The mask repeated over the rows and columns of each block, as a function of what it reads. -/
def fullMask (x_v48 : (⟨S1x16x16x16, .i1⟩ : BufTy).Contents (Elt F)) : (⟨S1x16x2048x2048, .i1⟩ : BufTy).Contents (Elt F) :=
  shapeCast _ ((broadcastInDim S1x16x2048x16x128 ![0, 1, 2, 3] bcast_S1x16x2048x16_S1x16x2048x16x128_0_1_2_3) (shapeCast _ ((broadcastInDim S1x16x16x128x16 ![0, 1, 2, 4] bcast_S1x16x16x16_S1x16x16x128x16_0_1_2_4) x_v48) shapeCasts_S1x16x16x128x16_S1x16x2048x16)) shapeCasts_S1x16x2048x16x128_S1x16x2048x2048

/-- The scores with the dropped blocks at minus infinity, as a function of what it reads. -/
def masked (x_arg0 : (⟨S1x16x2048x128, .f32⟩ : BufTy).Contents (Elt F)) (x_arg1 : (⟨S1x16x2048x128, .f32⟩ : BufTy).Contents (Elt F)) (x_v52 : (⟨S1x16x2048x2048, .i1⟩ : BufTy).Contents (Elt F)) : (⟨S1x16x2048x2048, .f32⟩ : BufTy).Contents (Elt F) :=
  select x_v52 (mulf (Host.dotGeneral dot_S1x16x2048x128_S1x16x2048x128_S1x16x2048x2048_3_3_2_2_01_01 none x_arg0 x_arg1) ((broadcastInDim S1x16x2048x2048 ![] bcast_S_S1x16x2048x2048) (constant S_ .f32 0x3DB504F3#32))) ((broadcastInDim S1x16x2048x2048 ![] bcast_S_S1x16x2048x2048) (constant S_ .f32 0xFF800000#32))

/-- The exponentials of the masked scores less their row maximum, as a function of what it reads. -/
def weights (x_v56 : (⟨S1x16x2048x2048, .f32⟩ : BufTy).Contents (Elt F)) : (⟨S1x16x2048x2048, .f32⟩ : BufTy).Contents (Elt F) :=
  Host.exp (subf x_v56 ((broadcastInDim S1x16x2048x2048 ![0, 1, 2, 3] bcast_S1x16x2048x1_S1x16x2048x2048_0_1_2_3) ((broadcastInDim S1x16x2048x1 ![0, 1, 2] bcast_S1x16x2048_S1x16x2048x1_0_1_2) (maximumf ((broadcastInDim S1x16x2048 ![] bcast_S_S1x16x2048) (constant S_ .f32 0xFF800000#32)) (Host.reduce FloatOps.maximumf x_v56 (constant S_ .f32 0xFF800000#32) reducesTo_S1x16x2048x2048_S1x16x2048_d3 h_S_)))))

/-- The attention weights, as a function of what it reads. -/
def probs (x_v63 : (⟨S1x16x2048x2048, .f32⟩ : BufTy).Contents (Elt F)) : (⟨S1x16x2048x2048, .f32⟩ : BufTy).Contents (Elt F) :=
  Host.divf x_v63 ((broadcastInDim S1x16x2048x2048 ![0, 1, 2, 3] bcast_S1x16x2048x1_S1x16x2048x2048_0_1_2_3) ((broadcastInDim S1x16x2048x1 ![0, 1, 2] bcast_S1x16x2048_S1x16x2048x1_0_1_2) (Host.reduceAdd x_v63 (constant S_ .f32 0x00000000#32) reducesTo_S1x16x2048x2048_S1x16x2048_d3 h_S_)))

/-- The weighted sum of the values, as a function of what it reads. -/
def attended (x_v67 : (⟨S1x16x2048x2048, .f32⟩ : BufTy).Contents (Elt F)) (x_arg2 : (⟨S1x16x2048x128, .f32⟩ : BufTy).Contents (Elt F)) : (⟨S1x16x2048x128, .f32⟩ : BufTy).Contents (Elt F) :=
  Host.dotGeneral dot_S1x16x2048x2048_S1x16x2048x128_S1x16x2048x128_3_2_2_3_01_01 none x_v67 x_arg2

abbrev w_poolScores : List (Ref sig .tc) := [main_v0, main_cst, main_v1, main_cst_0, main_v2, main_v3, main_v4, main_cst_1, main_v5, main_cst_2, main_v6, main_v7, main_v8, main_cst_3, main_v9, main_v10]
set_option maxRecDepth 8192 in
theorem poolScores_writes : (ops_poolScores : List (HloOp τ sig (Elt F))).Forall fun op => op.writes ⊆ (w_poolScores.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_⟩ <;> exact List.mem_map_of_mem (by decide)
theorem poolScores_sub : (ops_poolScores : List (HloOp τ sig (Elt F))).Forall fun op => op.bufs ⊆ tcRefs τ sig :=
  ⟨reshape_bufs_sub .., nullary_bufs_sub .., binary_bufs_sub .., nullary_bufs_sub .., unary_bufs_sub .., binary_bufs_sub .., reshape_bufs_sub .., nullary_bufs_sub .., binary_bufs_sub .., nullary_bufs_sub .., unary_bufs_sub .., binary_bufs_sub .., binary_bufs_sub .., nullary_bufs_sub .., unary_bufs_sub .., binary_bufs_sub ..⟩
theorem poolScores_fresh : (ops_poolScores : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
set_option maxHeartbeats 2000000 in
theorem poolScores_result (V : Valuation τ sig (Elt F)) : after ops_poolScores V (Proc.devRef .tc main_v10) = poolScores (V (Proc.devRef .tc main_arg0)) (V (Proc.devRef .tc main_arg1)) := by
  simp only [ops_poolScores, TRef.quaternary, TRef.binary, TRef.nullary, TRef.reshape, TRef.ternary, TRef.unary, TRef.toBuf, TRef.ofBuf, cast_eq]
  after_results_simp
  rfl

abbrev w_poolExp : List (Ref sig .tc) := [main_cst_4, main_v11, main_cst_5, main_v12, main_v13, main_v14, main_v15, main_v16, main_v17]
set_option maxRecDepth 8192 in
theorem poolExp_writes : (ops_poolExp : List (HloOp τ sig (Elt F))).Forall fun op => op.writes ⊆ (w_poolExp.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_⟩ <;> exact List.mem_map_of_mem (by decide)
theorem poolExp_sub : (ops_poolExp : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
theorem poolExp_fresh : (ops_poolExp : List (HloOp τ sig (Elt F))).Forall fun op => op.fresh = ∅ :=
  ⟨rfl, rfl, rfl, rfl, rfl, rfl, rfl, rfl, rfl⟩
set_option maxRecDepth 8192 in
set_option maxHeartbeats 2000000 in
theorem poolExp_result (V : Valuation τ sig (Elt F)) : after ops_poolExp V (Proc.devRef .tc main_v17) = poolExp (V (Proc.devRef .tc main_v10)) := by
  simp only [ops_poolExp, TRef.quaternary, TRef.binary, TRef.nullary, TRef.reshape, TRef.ternary, TRef.unary, TRef.toBuf, TRef.ofBuf, cast_eq]
  after_results_simp
  rfl

abbrev w_poolProbs : List (Ref sig .tc) := [main_cst_6, main_v18, main_v19, main_v20, main_v21]
set_option maxRecDepth 8192 in
theorem poolProbs_writes : (ops_poolProbs : List (HloOp τ sig (Elt F))).Forall fun op => op.writes ⊆ (w_poolProbs.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_⟩ <;> exact List.mem_map_of_mem (by decide)
theorem poolProbs_sub : (ops_poolProbs : List (HloOp τ sig (Elt F))).Forall fun op => op.bufs ⊆ tcRefs τ sig :=
  ⟨nullary_bufs_sub .., binary_bufs_sub .., unary_bufs_sub .., unary_bufs_sub .., binary_bufs_sub ..⟩
theorem poolProbs_fresh : (ops_poolProbs : List (HloOp τ sig (Elt F))).Forall fun op => op.fresh = ∅ :=
  ⟨rfl, rfl, rfl, rfl, rfl⟩
set_option maxRecDepth 8192 in
set_option maxHeartbeats 2000000 in
theorem poolProbs_result (V : Valuation τ sig (Elt F)) : after ops_poolProbs V (Proc.devRef .tc main_v21) = poolProbs (V (Proc.devRef .tc main_v17)) := by
  simp only [ops_poolProbs, TRef.quaternary, TRef.binary, TRef.nullary, TRef.reshape, TRef.ternary, TRef.unary, TRef.toBuf, TRef.ofBuf, cast_eq]
  after_results_simp
  rfl

abbrev w_order : List (Ref sig .tc) := [main_v22, main_call0_v0, main_call0_v1_0, main_v23]
set_option maxRecDepth 8192 in
theorem order_writes : (ops_order : List (HloOp τ sig (Elt F))).Forall fun op => op.writes ⊆ (w_order.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_⟩ <;> exact List.mem_map_of_mem (by decide)
theorem order_sub : (ops_order : List (HloOp τ sig (Elt F))).Forall fun op => op.bufs ⊆ tcRefs τ sig :=
  ⟨unary_bufs_sub .., nullary_bufs_sub .., binary_bufs_sub .., binary_bufs_sub ..⟩
theorem order_fresh : (ops_order : List (HloOp τ sig (Elt F))).Forall fun op => op.fresh = ∅ :=
  ⟨rfl, rfl, rfl, rfl⟩
set_option maxRecDepth 8192 in
set_option maxHeartbeats 2000000 in
theorem order_result (V : Valuation τ sig (Elt F)) : after ops_order V (Proc.devRef .tc main_v23) = order (V (Proc.devRef .tc main_v21)) := by
  simp only [ops_order, TRef.quaternary, TRef.binary, TRef.nullary, TRef.reshape, TRef.ternary, TRef.unary, TRef.toBuf, TRef.ofBuf, cast_eq]
  after_results_simp
  rfl

abbrev w_wrapF : List (Ref sig .tc) := [main_call1_c, main_call1_v0, main_call1_v1, main_call1_c_0, main_call1_v2, main_call1_v3, main_call1_v4, main_call1_v5]
set_option maxRecDepth 8192 in
theorem wrapF_writes : (ops_wrapF : List (HloOp τ sig (Elt F))).Forall fun op => op.writes ⊆ (w_wrapF.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_⟩ <;> exact List.mem_map_of_mem (by decide)
theorem wrapF_sub : (ops_wrapF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩
theorem wrapF_fresh : (ops_wrapF : List (HloOp τ sig (Elt F))).Forall fun op => op.fresh = ∅ :=
  ⟨rfl, rfl, rfl, rfl, rfl, rfl, rfl, rfl⟩
set_option maxRecDepth 8192 in
set_option maxHeartbeats 2000000 in
theorem wrapF_result (V : Valuation τ sig (Elt F)) : after ops_wrapF V (Proc.devRef .tc main_call1_v5) = wrapF (V (Proc.devRef .tc main_v23)) := by
  simp only [ops_wrapF, TRef.quaternary, TRef.binary, TRef.nullary, TRef.reshape, TRef.ternary, TRef.unary, TRef.toBuf, TRef.ofBuf, cast_eq]
  after_results_simp
  rfl

abbrev w_sorted : List (Ref sig .tc) := [main_call1_c_1, main_call1_c_2, main_call1_v6, main_call1_v7, main_call1_v8, main_call1_v9, main_call1_v10, main_call1_v11, main_call1_c_3, main_call1_v12, main_call1_v13, main_call1_v14, main_call1_cst, main_call1_v15, main_v24]
set_option maxRecDepth 8192 in
theorem sorted_writes : (ops_sorted : List (HloOp τ sig (Elt F))).Forall fun op => op.writes ⊆ (w_sorted.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
theorem sorted_sub : (ops_sorted : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem sorted_fresh : (ops_sorted : List (HloOp τ sig (Elt F))).Forall fun op => op.fresh = ∅ :=
  ⟨rfl, rfl, rfl, rfl, rfl, rfl, rfl, rfl, rfl, rfl, rfl, rfl, rfl, rfl, rfl⟩
set_option maxRecDepth 8192 in
set_option maxHeartbeats 2000000 in
theorem sorted_result (V : Valuation τ sig (Elt F)) : after ops_sorted V (Proc.devRef .tc main_v24) = sorted (V (Proc.devRef .tc main_call1_v5)) (V (Proc.devRef .tc main_v21)) := by
  simp only [ops_sorted, TRef.quaternary, TRef.binary, TRef.nullary, TRef.reshape, TRef.ternary, TRef.unary, TRef.toBuf, TRef.ofBuf, cast_eq]
  after_results_simp
  rfl

abbrev w_cum : List (Ref sig .tc) := [main_call2_call0_cst, main_call2_call0_v0, main_v25]
set_option maxRecDepth 8192 in
theorem cum_writes : (ops_cum : List (HloOp τ sig (Elt F))).Forall fun op => op.writes ⊆ (w_cum.map (Proc.devRef (τ := τ) .tc)).toFinset := by
  simp only [List.Forall, nullary_writes, unary_writes, binary_writes, ternary_writes, quaternary_writes, reshape_writes, Finset.singleton_subset_iff, List.mem_toFinset]
  refine ⟨?_, ?_, ?_⟩ <;> exact List.mem_map_of_mem (by decide)
theorem cum_sub : (ops_cum : List (HloOp τ sig (Elt F))).Forall fun op => op.bufs ⊆ tcRefs τ sig :=
  ⟨nullary_bufs_sub .., unary_bufs_sub .., binary_bufs_sub ..⟩
theorem cum_fresh : (ops_cum : List (HloOp τ sig (Elt F))).Forall fun op => op.fresh = ∅ :=
  ⟨rfl, rfl, rfl⟩
set_option maxRecDepth 8192 in
set_option maxHeartbeats 2000000 in
theorem cum_result (V : Valuation τ sig (Elt F)) : after ops_cum V (Proc.devRef .tc main_v25) = cum (V (Proc.devRef .tc main_v24)) := by
  simp only [ops_cum, TRef.quaternary, TRef.binary, TRef.nullary, TRef.reshape, TRef.ternary, TRef.unary, TRef.toBuf, TRef.ofBuf, cast_eq]
  after_results_simp
  rfl

abbrev w_total : List (Ref sig .tc) := [main_v26]
set_option maxRecDepth 8192 in
theorem total_writes : (ops_total : List (HloOp τ sig (Elt F))).Forall fun op => op.writes ⊆ (w_total.map (Proc.devRef (τ := τ) .tc)).toFinset := by
  simp only [List.Forall, nullary_writes, unary_writes, binary_writes, ternary_writes, quaternary_writes, reshape_writes, Finset.singleton_subset_iff, List.mem_toFinset]
  refine ?_ <;> exact List.mem_map_of_mem (by decide)
theorem total_sub : (ops_total : List (HloOp τ sig (Elt F))).Forall fun op => op.bufs ⊆ tcRefs τ sig :=
  unary_bufs_sub ..
theorem total_fresh : (ops_total : List (HloOp τ sig (Elt F))).Forall fun op => op.fresh = ∅ :=
  rfl
set_option maxRecDepth 8192 in
set_option maxHeartbeats 2000000 in
theorem total_result (V : Valuation τ sig (Elt F)) : after ops_total V (Proc.devRef .tc main_v26) = total (V (Proc.devRef .tc main_v25)) := by
  simp only [ops_total, TRef.quaternary, TRef.binary, TRef.nullary, TRef.reshape, TRef.ternary, TRef.unary, TRef.toBuf, TRef.ofBuf, cast_eq]
  after_results_simp
  rfl

abbrev w_first : List (Ref sig .tc) := [main_cst_7, main_v27, main_v28, main_v29, main_v30, main_v31, main_call3_v0, main_call3_c, main_call3_c_0, main_call3_v1_0, main_v32]
set_option maxRecDepth 8192 in
theorem first_writes : (ops_first : List (HloOp τ sig (Elt F))).Forall fun op => op.writes ⊆ (w_first.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_⟩ <;> exact List.mem_map_of_mem (by decide)
theorem first_sub : (ops_first : List (HloOp τ sig (Elt F))).Forall fun op => op.bufs ⊆ tcRefs τ sig :=
  ⟨nullary_bufs_sub .., unary_bufs_sub .., binary_bufs_sub .., unary_bufs_sub .., binary_bufs_sub .., unary_bufs_sub .., nullary_bufs_sub .., nullary_bufs_sub .., nullary_bufs_sub .., quaternary_bufs_sub .., quaternary_bufs_sub ..⟩
theorem first_fresh : (ops_first : List (HloOp τ sig (Elt F))).Forall fun op => op.fresh = ∅ :=
  ⟨rfl, rfl, rfl, rfl, rfl, rfl, rfl, rfl, rfl, rfl, rfl⟩
set_option maxRecDepth 8192 in
set_option maxHeartbeats 2000000 in
theorem first_result (V : Valuation τ sig (Elt F)) : after ops_first V (Proc.devRef .tc main_v32) = first (V (Proc.devRef .tc main_v26)) (V (Proc.devRef .tc main_v25)) := by
  simp only [ops_first, TRef.quaternary, TRef.binary, TRef.nullary, TRef.reshape, TRef.ternary, TRef.unary, TRef.toBuf, TRef.ofBuf, cast_eq]
  after_results_simp
  rfl

abbrev w_count : List (Ref sig .tc) := [main_v33, main_v34, main_v35, main_cst_8, main_v36, main_v37, main_v38, main_c, main_call4_v0, main_call4_v1, main_v39, main_c_9, main_c_10, main_call5_v0, main_call5_v1, main_call5_v2, main_call5_v3, main_call5_v4, main_v40]
set_option maxRecDepth 8192 in
theorem count_writes : (ops_count : List (HloOp τ sig (Elt F))).Forall fun op => op.writes ⊆ (w_count.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
theorem count_sub : (ops_count : List (HloOp τ sig (Elt F))).Forall fun op => op.bufs ⊆ tcRefs τ sig :=
  ⟨unary_bufs_sub .., reshape_bufs_sub .., reshape_bufs_sub .., nullary_bufs_sub .., unary_bufs_sub .., binary_bufs_sub .., binary_bufs_sub .., nullary_bufs_sub .., unary_bufs_sub .., unary_bufs_sub .., ternary_bufs_sub .., nullary_bufs_sub .., nullary_bufs_sub .., unary_bufs_sub .., unary_bufs_sub .., binary_bufs_sub .., unary_bufs_sub .., unary_bufs_sub .., binary_bufs_sub ..⟩
theorem count_fresh : (ops_count : List (HloOp τ sig (Elt F))).Forall fun op => op.fresh = ∅ :=
  ⟨rfl, rfl, rfl, rfl, rfl, rfl, rfl, rfl, rfl, rfl, rfl, rfl, rfl, rfl, rfl, rfl, rfl, rfl, rfl⟩
set_option maxRecDepth 8192 in
set_option maxHeartbeats 2000000 in
theorem count_result (V : Valuation τ sig (Elt F)) : after ops_count V (Proc.devRef .tc main_v40) = count (V (Proc.devRef .tc main_v25)) (V (Proc.devRef .tc main_v26)) (V (Proc.devRef .tc main_v32)) := by
  simp only [ops_count, TRef.quaternary, TRef.binary, TRef.nullary, TRef.reshape, TRef.ternary, TRef.unary, TRef.toBuf, TRef.ofBuf, cast_eq]
  after_results_simp
  rfl

abbrev w_kept : List (Ref sig .tc) := [main_v41, main_v42, main_v43, main_v44, main_v45, main_v46]
set_option maxRecDepth 8192 in
theorem kept_writes : (ops_kept : List (HloOp τ sig (Elt F))).Forall fun op => op.writes ⊆ (w_kept.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_⟩ <;> exact List.mem_map_of_mem (by decide)
theorem kept_sub : (ops_kept : List (HloOp τ sig (Elt F))).Forall fun op => op.bufs ⊆ tcRefs τ sig :=
  ⟨nullary_bufs_sub .., unary_bufs_sub .., unary_bufs_sub .., unary_bufs_sub .., unary_bufs_sub .., binary_bufs_sub ..⟩
theorem kept_fresh : (ops_kept : List (HloOp τ sig (Elt F))).Forall fun op => op.fresh = ∅ :=
  ⟨rfl, rfl, rfl, rfl, rfl, rfl⟩
set_option maxRecDepth 8192 in
set_option maxHeartbeats 2000000 in
theorem kept_result (V : Valuation τ sig (Elt F)) : after ops_kept V (Proc.devRef .tc main_v46) = kept (V (Proc.devRef .tc main_v40)) := by
  simp only [ops_kept, TRef.quaternary, TRef.binary, TRef.nullary, TRef.reshape, TRef.ternary, TRef.unary, TRef.toBuf, TRef.ofBuf, cast_eq]
  after_results_simp
  rfl

abbrev w_inverse : List (Ref sig .tc) := [main_call6_v0, main_call6_v1_0, main_v47]
set_option maxRecDepth 8192 in
theorem inverse_writes : (ops_inverse : List (HloOp τ sig (Elt F))).Forall fun op => op.writes ⊆ (w_inverse.map (Proc.devRef (τ := τ) .tc)).toFinset := by
  simp only [List.Forall, nullary_writes, unary_writes, binary_writes, ternary_writes, quaternary_writes, reshape_writes, Finset.singleton_subset_iff, List.mem_toFinset]
  refine ⟨?_, ?_, ?_⟩ <;> exact List.mem_map_of_mem (by decide)
theorem inverse_sub : (ops_inverse : List (HloOp τ sig (Elt F))).Forall fun op => op.bufs ⊆ tcRefs τ sig :=
  ⟨nullary_bufs_sub .., binary_bufs_sub .., binary_bufs_sub ..⟩
theorem inverse_fresh : (ops_inverse : List (HloOp τ sig (Elt F))).Forall fun op => op.fresh = ∅ :=
  ⟨rfl, rfl, rfl⟩
set_option maxRecDepth 8192 in
set_option maxHeartbeats 2000000 in
theorem inverse_result (V : Valuation τ sig (Elt F)) : after ops_inverse V (Proc.devRef .tc main_v47) = inverse (V (Proc.devRef .tc main_v23)) := by
  simp only [ops_inverse, TRef.quaternary, TRef.binary, TRef.nullary, TRef.reshape, TRef.ternary, TRef.unary, TRef.toBuf, TRef.ofBuf, cast_eq]
  after_results_simp
  rfl

abbrev w_wrapI : List (Ref sig .tc) := [main_call7_c, main_call7_v0, main_call7_v1, main_call7_c_0, main_call7_v2, main_call7_v3, main_call7_v4, main_call7_v5]
set_option maxRecDepth 8192 in
theorem wrapI_writes : (ops_wrapI : List (HloOp τ sig (Elt F))).Forall fun op => op.writes ⊆ (w_wrapI.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_⟩ <;> exact List.mem_map_of_mem (by decide)
theorem wrapI_sub : (ops_wrapI : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩
theorem wrapI_fresh : (ops_wrapI : List (HloOp τ sig (Elt F))).Forall fun op => op.fresh = ∅ :=
  ⟨rfl, rfl, rfl, rfl, rfl, rfl, rfl, rfl⟩
set_option maxRecDepth 8192 in
set_option maxHeartbeats 2000000 in
theorem wrapI_result (V : Valuation τ sig (Elt F)) : after ops_wrapI V (Proc.devRef .tc main_call7_v5) = wrapI (V (Proc.devRef .tc main_v47)) := by
  simp only [ops_wrapI, TRef.quaternary, TRef.binary, TRef.nullary, TRef.reshape, TRef.ternary, TRef.unary, TRef.toBuf, TRef.ofBuf, cast_eq]
  after_results_simp
  rfl

abbrev w_blockMask : List (Ref sig .tc) := [main_call7_c_1, main_call7_c_2, main_call7_v6, main_call7_v7, main_call7_v8, main_call7_v9, main_call7_v10, main_call7_v11, main_call7_c_3, main_call7_v12, main_call7_v13, main_call7_v14, main_call7_c_4, main_call7_v15, main_v48]
set_option maxRecDepth 8192 in
theorem blockMask_writes : (ops_blockMask : List (HloOp τ sig (Elt F))).Forall fun op => op.writes ⊆ (w_blockMask.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_⟩ <;> exact List.mem_map_of_mem (by decide)
theorem blockMask_sub : (ops_blockMask : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem blockMask_fresh : (ops_blockMask : List (HloOp τ sig (Elt F))).Forall fun op => op.fresh = ∅ :=
  ⟨rfl, rfl, rfl, rfl, rfl, rfl, rfl, rfl, rfl, rfl, rfl, rfl, rfl, rfl, rfl⟩
set_option maxRecDepth 8192 in
set_option maxHeartbeats 2000000 in
theorem blockMask_result (V : Valuation τ sig (Elt F)) : after ops_blockMask V (Proc.devRef .tc main_v48) = blockMask (V (Proc.devRef .tc main_call7_v5)) (V (Proc.devRef .tc main_v46)) := by
  simp only [ops_blockMask, TRef.quaternary, TRef.binary, TRef.nullary, TRef.reshape, TRef.ternary, TRef.unary, TRef.toBuf, TRef.ofBuf, cast_eq]
  after_results_simp
  rfl

abbrev w_fullMask : List (Ref sig .tc) := [main_v49, main_v50, main_v51, main_v52]
set_option maxRecDepth 8192 in
theorem fullMask_writes : (ops_fullMask : List (HloOp τ sig (Elt F))).Forall fun op => op.writes ⊆ (w_fullMask.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_⟩ <;> exact List.mem_map_of_mem (by decide)
theorem fullMask_sub : (ops_fullMask : List (HloOp τ sig (Elt F))).Forall fun op => op.bufs ⊆ tcRefs τ sig :=
  ⟨unary_bufs_sub .., reshape_bufs_sub .., unary_bufs_sub .., reshape_bufs_sub ..⟩
theorem fullMask_fresh : (ops_fullMask : List (HloOp τ sig (Elt F))).Forall fun op => op.fresh = ∅ :=
  ⟨rfl, rfl, rfl, rfl⟩
set_option maxRecDepth 8192 in
set_option maxHeartbeats 2000000 in
theorem fullMask_result (V : Valuation τ sig (Elt F)) : after ops_fullMask V (Proc.devRef .tc main_v52) = fullMask (V (Proc.devRef .tc main_v48)) := by
  simp only [ops_fullMask, TRef.quaternary, TRef.binary, TRef.nullary, TRef.reshape, TRef.ternary, TRef.unary, TRef.toBuf, TRef.ofBuf, cast_eq]
  after_results_simp
  rfl

abbrev w_masked : List (Ref sig .tc) := [main_v53, main_cst_11, main_v54, main_v55, main_cst_12, main_call8_v0, main_call8_v1, main_v56]
set_option maxRecDepth 8192 in
theorem masked_writes : (ops_masked : List (HloOp τ sig (Elt F))).Forall fun op => op.writes ⊆ (w_masked.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_⟩ <;> exact List.mem_map_of_mem (by decide)
theorem masked_sub : (ops_masked : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., ternary_bufs_sub ..⟩
theorem masked_fresh : (ops_masked : List (HloOp τ sig (Elt F))).Forall fun op => op.fresh = ∅ :=
  ⟨rfl, rfl, rfl, rfl, rfl, rfl, rfl, rfl⟩
set_option maxRecDepth 8192 in
set_option maxHeartbeats 2000000 in
theorem masked_result (V : Valuation τ sig (Elt F)) : after ops_masked V (Proc.devRef .tc main_v56) = masked (V (Proc.devRef .tc main_arg0)) (V (Proc.devRef .tc main_arg1)) (V (Proc.devRef .tc main_v52)) := by
  simp only [ops_masked, TRef.quaternary, TRef.binary, TRef.nullary, TRef.reshape, TRef.ternary, TRef.unary, TRef.toBuf, TRef.ofBuf, cast_eq]
  after_results_simp
  rfl

abbrev w_weights : List (Ref sig .tc) := [main_cst_13, main_v57, main_cst_14, main_v58, main_v59, main_v60, main_v61, main_v62, main_v63]
set_option maxRecDepth 8192 in
theorem weights_writes : (ops_weights : List (HloOp τ sig (Elt F))).Forall fun op => op.writes ⊆ (w_weights.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_, ?_, ?_, ?_, ?_⟩ <;> exact List.mem_map_of_mem (by decide)
theorem weights_sub : (ops_weights : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
theorem weights_fresh : (ops_weights : List (HloOp τ sig (Elt F))).Forall fun op => op.fresh = ∅ :=
  ⟨rfl, rfl, rfl, rfl, rfl, rfl, rfl, rfl, rfl⟩
set_option maxRecDepth 8192 in
set_option maxHeartbeats 2000000 in
theorem weights_result (V : Valuation τ sig (Elt F)) : after ops_weights V (Proc.devRef .tc main_v63) = weights (V (Proc.devRef .tc main_v56)) := by
  simp only [ops_weights, TRef.quaternary, TRef.binary, TRef.nullary, TRef.reshape, TRef.ternary, TRef.unary, TRef.toBuf, TRef.ofBuf, cast_eq]
  after_results_simp
  rfl

abbrev w_probs : List (Ref sig .tc) := [main_cst_15, main_v64, main_v65, main_v66, main_v67]
set_option maxRecDepth 8192 in
theorem probs_writes : (ops_probs : List (HloOp τ sig (Elt F))).Forall fun op => op.writes ⊆ (w_probs.map (Proc.devRef (τ := τ) .tc)).toFinset := by
  simp only [List.Forall, nullary_writes, unary_writes, binary_writes, ternary_writes, quaternary_writes, reshape_writes, Finset.singleton_subset_iff, List.mem_toFinset]
  refine ⟨?_, ?_, ?_, ?_, ?_⟩ <;> exact List.mem_map_of_mem (by decide)
theorem probs_sub : (ops_probs : List (HloOp τ sig (Elt F))).Forall fun op => op.bufs ⊆ tcRefs τ sig :=
  ⟨nullary_bufs_sub .., binary_bufs_sub .., unary_bufs_sub .., unary_bufs_sub .., binary_bufs_sub ..⟩
theorem probs_fresh : (ops_probs : List (HloOp τ sig (Elt F))).Forall fun op => op.fresh = ∅ :=
  ⟨rfl, rfl, rfl, rfl, rfl⟩
set_option maxRecDepth 8192 in
set_option maxHeartbeats 2000000 in
theorem probs_result (V : Valuation τ sig (Elt F)) : after ops_probs V (Proc.devRef .tc main_v67) = probs (V (Proc.devRef .tc main_v63)) := by
  simp only [ops_probs, TRef.quaternary, TRef.binary, TRef.nullary, TRef.reshape, TRef.ternary, TRef.unary, TRef.toBuf, TRef.ofBuf, cast_eq]
  after_results_simp
  rfl

abbrev w_attended : List (Ref sig .tc) := [main_v68]
set_option maxRecDepth 8192 in
theorem attended_writes : (ops_attended : List (HloOp τ sig (Elt F))).Forall fun op => op.writes ⊆ (w_attended.map (Proc.devRef (τ := τ) .tc)).toFinset := by
  simp only [List.Forall, nullary_writes, unary_writes, binary_writes, ternary_writes, quaternary_writes, reshape_writes, Finset.singleton_subset_iff, List.mem_toFinset]
  refine ?_ <;> exact List.mem_map_of_mem (by decide)
theorem attended_sub : (ops_attended : List (HloOp τ sig (Elt F))).Forall fun op => op.bufs ⊆ tcRefs τ sig :=
  binary_bufs_sub ..
theorem attended_fresh : (ops_attended : List (HloOp τ sig (Elt F))).Forall fun op => op.fresh = ∅ :=
  rfl
set_option maxRecDepth 8192 in
set_option maxHeartbeats 2000000 in
theorem attended_result (V : Valuation τ sig (Elt F)) : after ops_attended V (Proc.devRef .tc main_v68) = attended (V (Proc.devRef .tc main_v67)) (V (Proc.devRef .tc main_arg2)) := by
  simp only [ops_attended, TRef.quaternary, TRef.binary, TRef.nullary, TRef.reshape, TRef.ternary, TRef.unary, TRef.toBuf, TRef.ofBuf, cast_eq]
  after_results_simp
  rfl

def ops_part0 : List (HloOp τ sig (Elt F)) := ops_poolScores ++ (ops_poolExp ++ (ops_poolProbs ++ (ops_order ++ (ops_wrapF ++ (ops_sorted ++ (ops_cum ++ (ops_total ++ (ops_first ++ (ops_count ++ (ops_kept))))))))))
def ops_part1 : List (HloOp τ sig (Elt F)) := ops_inverse ++ (ops_wrapI ++ (ops_blockMask ++ (ops_fullMask ++ (ops_masked ++ (ops_weights ++ (ops_probs ++ (ops_attended)))))))
abbrev ops : List (HloOp τ sig (Elt F)) := ops_part0 ++ ops_part1

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h | h | h | h | h | h | h | h | h | h | h | h
    exacts [List.forall_iff_forall_mem.mp poolScores_sub op h, List.forall_iff_forall_mem.mp poolExp_sub op h, List.forall_iff_forall_mem.mp poolProbs_sub op h, List.forall_iff_forall_mem.mp order_sub op h, List.forall_iff_forall_mem.mp wrapF_sub op h, List.forall_iff_forall_mem.mp sorted_sub op h, List.forall_iff_forall_mem.mp cum_sub op h, List.forall_iff_forall_mem.mp total_sub op h, List.forall_iff_forall_mem.mp first_sub op h, List.forall_iff_forall_mem.mp count_sub op h, List.forall_iff_forall_mem.mp kept_sub op h, List.forall_iff_forall_mem.mp inverse_sub op h, List.forall_iff_forall_mem.mp wrapI_sub op h, List.forall_iff_forall_mem.mp blockMask_sub op h, List.forall_iff_forall_mem.mp fullMask_sub op h, List.forall_iff_forall_mem.mp masked_sub op h, List.forall_iff_forall_mem.mp weights_sub op h, List.forall_iff_forall_mem.mp probs_sub op h, List.forall_iff_forall_mem.mp attended_sub op h]
theorem ops_fresh : ∀ op ∈ (ops : List (HloOp τ sig (Elt F))), op.fresh = ∅ := fun op h => by
    simp only [ops, ops_part0, ops_part1, List.mem_append, or_assoc] at h
    rcases h with h | h | h | h | h | h | h | h | h | h | h | h | h | h | h | h | h | h | h
    exacts [List.forall_iff_forall_mem.mp poolScores_fresh op h, List.forall_iff_forall_mem.mp poolExp_fresh op h, List.forall_iff_forall_mem.mp poolProbs_fresh op h, List.forall_iff_forall_mem.mp order_fresh op h, List.forall_iff_forall_mem.mp wrapF_fresh op h, List.forall_iff_forall_mem.mp sorted_fresh op h, List.forall_iff_forall_mem.mp cum_fresh op h, List.forall_iff_forall_mem.mp total_fresh op h, List.forall_iff_forall_mem.mp first_fresh op h, List.forall_iff_forall_mem.mp count_fresh op h, List.forall_iff_forall_mem.mp kept_fresh op h, List.forall_iff_forall_mem.mp inverse_fresh op h, List.forall_iff_forall_mem.mp wrapI_fresh op h, List.forall_iff_forall_mem.mp blockMask_fresh op h, List.forall_iff_forall_mem.mp fullMask_fresh op h, List.forall_iff_forall_mem.mp masked_fresh op h, List.forall_iff_forall_mem.mp weights_fresh op h, List.forall_iff_forall_mem.mp probs_fresh op h, List.forall_iff_forall_mem.mp attended_fresh op h]

variable (V : Valuation τ sig (Elt F))

/-- The contents after the operations that make the pooled scores, scaled. -/
def at_poolScores : Valuation τ sig (Elt F) := after ops_poolScores V
/-- The contents after the operations that make the exponentials of the pooled scores less their row maximum. -/
def at_poolExp : Valuation τ sig (Elt F) := after ops_poolExp (at_poolScores V)
/-- The contents after the operations that make the pooled softmax. -/
def at_poolProbs : Valuation τ sig (Elt F) := after ops_poolProbs (at_poolExp V)
/-- The contents after the operations that make the positions in decreasing order of probability. -/
def at_order : Valuation τ sig (Elt F) := after ops_order (at_poolProbs V)
/-- The contents after the operations that make the positions with negative ones wrapped, as an index column. -/
def at_wrapF : Valuation τ sig (Elt F) := after ops_wrapF (at_order V)
/-- The contents after the operations that make the probabilities taken in that order. -/
def at_sorted : Valuation τ sig (Elt F) := after ops_sorted (at_wrapF V)
/-- The contents after the operations that make the running sums. -/
def at_cum : Valuation τ sig (Elt F) := after ops_cum (at_sorted V)
/-- The contents after the operations that make the last running sum. -/
def at_total : Valuation τ sig (Elt F) := after ops_total (at_cum V)
/-- The contents after the operations that make the first position whose running sum reaches the threshold. -/
def at_first : Valuation τ sig (Elt F) := after ops_first (at_total V)
/-- The contents after the operations that make the number of blocks kept, clipped. -/
def at_count : Valuation τ sig (Elt F) := after ops_count (at_first V)
/-- The contents after the operations that make which sorted positions are kept. -/
def at_kept : Valuation τ sig (Elt F) := after ops_kept (at_count V)
/-- The contents after the operations that make the inverse order. -/
def at_inverse : Valuation τ sig (Elt F) := after ops_inverse (at_kept V)
/-- The contents after the operations that make the inverse order with negative ones wrapped, as an index column. -/
def at_wrapI : Valuation τ sig (Elt F) := after ops_wrapI (at_inverse V)
/-- The contents after the operations that make the block mask. -/
def at_blockMask : Valuation τ sig (Elt F) := after ops_blockMask (at_wrapI V)
/-- The contents after the operations that make the mask repeated over the rows and columns of each block. -/
def at_fullMask : Valuation τ sig (Elt F) := after ops_fullMask (at_blockMask V)
/-- The contents after the operations that make the scores with the dropped blocks at minus infinity. -/
def at_masked : Valuation τ sig (Elt F) := after ops_masked (at_fullMask V)
/-- The contents after the operations that make the exponentials of the masked scores less their row maximum. -/
def at_weights : Valuation τ sig (Elt F) := after ops_weights (at_masked V)
/-- The contents after the operations that make the attention weights. -/
def at_probs : Valuation τ sig (Elt F) := after ops_probs (at_weights V)
/-- The contents after the operations that make the weighted sum of the values. -/
def at_attended : Valuation τ sig (Elt F) := after ops_attended (at_probs V)

theorem after_ops : after ops V = at_attended V := by
  simp only [ops, ops_part0, ops_part1, after_append]
  rfl

/-- The pooled scores, scaled, from the launch contents. -/
def r_poolScores : (⟨S1x16x16x16, .f32⟩ : BufTy).Contents (Elt F) := poolScores (V (Proc.devRef .tc main_arg0)) (V (Proc.devRef .tc main_arg1))
/-- The exponentials of the pooled scores less their row maximum, from the launch contents. -/
def r_poolExp : (⟨S1x16x16x16, .f32⟩ : BufTy).Contents (Elt F) := poolExp (r_poolScores V)
/-- The pooled softmax, from the launch contents. -/
def r_poolProbs : (⟨S1x16x16x16, .f32⟩ : BufTy).Contents (Elt F) := poolProbs (r_poolExp V)
/-- The positions in decreasing order of probability, from the launch contents. -/
def r_order : (⟨S1x16x16x16, .i32⟩ : BufTy).Contents (Elt F) := order (r_poolProbs V)
/-- The positions with negative ones wrapped, as an index column, from the launch contents. -/
def r_wrapF : (⟨S16x16x16x1, .i32⟩ : BufTy).Contents (Elt F) := wrapF (r_order V)
/-- The probabilities taken in that order, from the launch contents. -/
def r_sorted : (⟨S1x16x16x16, .f32⟩ : BufTy).Contents (Elt F) := sorted (r_wrapF V) (r_poolProbs V)
/-- The running sums, from the launch contents. -/
def r_cum : (⟨S1x16x16x16, .f32⟩ : BufTy).Contents (Elt F) := cum (r_sorted V)
/-- The last running sum, from the launch contents. -/
def r_total : (⟨S1x16x16x1, .f32⟩ : BufTy).Contents (Elt F) := total (r_cum V)
/-- The first position whose running sum reaches the threshold, from the launch contents. -/
def r_first : (⟨S1x16x16, .i32⟩ : BufTy).Contents (Elt F) := first (r_total V) (r_cum V)
/-- The number of blocks kept, clipped, from the launch contents. -/
def r_count : (⟨S1x16x16, .i32⟩ : BufTy).Contents (Elt F) := count (r_cum V) (r_total V) (r_first V)
/-- Which sorted positions are kept, from the launch contents. -/
def r_kept : (⟨S1x16x16x16, .i1⟩ : BufTy).Contents (Elt F) := kept (r_count V)
/-- The inverse order, from the launch contents. -/
def r_inverse : (⟨S1x16x16x16, .i32⟩ : BufTy).Contents (Elt F) := inverse (r_order V)
/-- The inverse order with negative ones wrapped, as an index column, from the launch contents. -/
def r_wrapI : (⟨S16x16x16x1, .i32⟩ : BufTy).Contents (Elt F) := wrapI (r_inverse V)
/-- The block mask, from the launch contents. -/
def r_blockMask : (⟨S1x16x16x16, .i1⟩ : BufTy).Contents (Elt F) := blockMask (r_wrapI V) (r_kept V)
/-- The mask repeated over the rows and columns of each block, from the launch contents. -/
def r_fullMask : (⟨S1x16x2048x2048, .i1⟩ : BufTy).Contents (Elt F) := fullMask (r_blockMask V)
/-- The scores with the dropped blocks at minus infinity, from the launch contents. -/
def r_masked : (⟨S1x16x2048x2048, .f32⟩ : BufTy).Contents (Elt F) := masked (V (Proc.devRef .tc main_arg0)) (V (Proc.devRef .tc main_arg1)) (r_fullMask V)
/-- The exponentials of the masked scores less their row maximum, from the launch contents. -/
def r_weights : (⟨S1x16x2048x2048, .f32⟩ : BufTy).Contents (Elt F) := weights (r_masked V)
/-- The attention weights, from the launch contents. -/
def r_probs : (⟨S1x16x2048x2048, .f32⟩ : BufTy).Contents (Elt F) := probs (r_weights V)
/-- The weighted sum of the values, from the launch contents. -/
def r_attended : (⟨S1x16x2048x128, .f32⟩ : BufTy).Contents (Elt F) := attended (r_probs V) (V (Proc.devRef .tc main_arg2))

theorem at_poolScores_arg0 : at_poolScores V (Proc.devRef .tc main_arg0) = V (Proc.devRef .tc main_arg0) :=
  (after_of_writes_sub ops_poolScores _ poolScores_writes (by decide)).trans (rfl)
theorem at_poolScores_arg1 : at_poolScores V (Proc.devRef .tc main_arg1) = V (Proc.devRef .tc main_arg1) :=
  (after_of_writes_sub ops_poolScores _ poolScores_writes (by decide)).trans (rfl)
theorem at_poolScores_arg2 : at_poolScores V (Proc.devRef .tc main_arg2) = V (Proc.devRef .tc main_arg2) :=
  (after_of_writes_sub ops_poolScores _ poolScores_writes (by decide)).trans (rfl)
theorem at_poolScores_poolScores : at_poolScores V (Proc.devRef .tc main_v10) = r_poolScores V := by
  rw [at_poolScores, poolScores_result]; rfl
theorem at_poolExp_arg0 : at_poolExp V (Proc.devRef .tc main_arg0) = V (Proc.devRef .tc main_arg0) :=
  (after_of_writes_sub ops_poolExp _ poolExp_writes (by decide)).trans (at_poolScores_arg0 V)
theorem at_poolExp_arg1 : at_poolExp V (Proc.devRef .tc main_arg1) = V (Proc.devRef .tc main_arg1) :=
  (after_of_writes_sub ops_poolExp _ poolExp_writes (by decide)).trans (at_poolScores_arg1 V)
theorem at_poolExp_arg2 : at_poolExp V (Proc.devRef .tc main_arg2) = V (Proc.devRef .tc main_arg2) :=
  (after_of_writes_sub ops_poolExp _ poolExp_writes (by decide)).trans (at_poolScores_arg2 V)
theorem at_poolExp_poolExp : at_poolExp V (Proc.devRef .tc main_v17) = r_poolExp V := by
  rw [at_poolExp, poolExp_result, at_poolScores_poolScores V]; rfl
theorem at_poolProbs_arg0 : at_poolProbs V (Proc.devRef .tc main_arg0) = V (Proc.devRef .tc main_arg0) :=
  (after_of_writes_sub ops_poolProbs _ poolProbs_writes (by decide)).trans (at_poolExp_arg0 V)
theorem at_poolProbs_arg1 : at_poolProbs V (Proc.devRef .tc main_arg1) = V (Proc.devRef .tc main_arg1) :=
  (after_of_writes_sub ops_poolProbs _ poolProbs_writes (by decide)).trans (at_poolExp_arg1 V)
theorem at_poolProbs_arg2 : at_poolProbs V (Proc.devRef .tc main_arg2) = V (Proc.devRef .tc main_arg2) :=
  (after_of_writes_sub ops_poolProbs _ poolProbs_writes (by decide)).trans (at_poolExp_arg2 V)
theorem at_poolProbs_poolProbs : at_poolProbs V (Proc.devRef .tc main_v21) = r_poolProbs V := by
  rw [at_poolProbs, poolProbs_result, at_poolExp_poolExp V]; rfl
theorem at_order_arg0 : at_order V (Proc.devRef .tc main_arg0) = V (Proc.devRef .tc main_arg0) :=
  (after_of_writes_sub ops_order _ order_writes (by decide)).trans (at_poolProbs_arg0 V)
theorem at_order_arg1 : at_order V (Proc.devRef .tc main_arg1) = V (Proc.devRef .tc main_arg1) :=
  (after_of_writes_sub ops_order _ order_writes (by decide)).trans (at_poolProbs_arg1 V)
theorem at_order_arg2 : at_order V (Proc.devRef .tc main_arg2) = V (Proc.devRef .tc main_arg2) :=
  (after_of_writes_sub ops_order _ order_writes (by decide)).trans (at_poolProbs_arg2 V)
theorem at_order_poolProbs : at_order V (Proc.devRef .tc main_v21) = r_poolProbs V :=
  (after_of_writes_sub ops_order _ order_writes (by decide)).trans (at_poolProbs_poolProbs V)
theorem at_order_order : at_order V (Proc.devRef .tc main_v23) = r_order V := by
  rw [at_order, order_result, at_poolProbs_poolProbs V]; rfl
theorem at_wrapF_arg0 : at_wrapF V (Proc.devRef .tc main_arg0) = V (Proc.devRef .tc main_arg0) :=
  (after_of_writes_sub ops_wrapF _ wrapF_writes (by decide)).trans (at_order_arg0 V)
theorem at_wrapF_arg1 : at_wrapF V (Proc.devRef .tc main_arg1) = V (Proc.devRef .tc main_arg1) :=
  (after_of_writes_sub ops_wrapF _ wrapF_writes (by decide)).trans (at_order_arg1 V)
theorem at_wrapF_arg2 : at_wrapF V (Proc.devRef .tc main_arg2) = V (Proc.devRef .tc main_arg2) :=
  (after_of_writes_sub ops_wrapF _ wrapF_writes (by decide)).trans (at_order_arg2 V)
theorem at_wrapF_poolProbs : at_wrapF V (Proc.devRef .tc main_v21) = r_poolProbs V :=
  (after_of_writes_sub ops_wrapF _ wrapF_writes (by decide)).trans (at_order_poolProbs V)
theorem at_wrapF_order : at_wrapF V (Proc.devRef .tc main_v23) = r_order V :=
  (after_of_writes_sub ops_wrapF _ wrapF_writes (by decide)).trans (at_order_order V)
theorem at_wrapF_wrapF : at_wrapF V (Proc.devRef .tc main_call1_v5) = r_wrapF V := by
  rw [at_wrapF, wrapF_result, at_order_order V]; rfl
theorem at_sorted_arg0 : at_sorted V (Proc.devRef .tc main_arg0) = V (Proc.devRef .tc main_arg0) :=
  (after_of_writes_sub ops_sorted _ sorted_writes (by decide)).trans (at_wrapF_arg0 V)
theorem at_sorted_arg1 : at_sorted V (Proc.devRef .tc main_arg1) = V (Proc.devRef .tc main_arg1) :=
  (after_of_writes_sub ops_sorted _ sorted_writes (by decide)).trans (at_wrapF_arg1 V)
theorem at_sorted_arg2 : at_sorted V (Proc.devRef .tc main_arg2) = V (Proc.devRef .tc main_arg2) :=
  (after_of_writes_sub ops_sorted _ sorted_writes (by decide)).trans (at_wrapF_arg2 V)
theorem at_sorted_order : at_sorted V (Proc.devRef .tc main_v23) = r_order V :=
  (after_of_writes_sub ops_sorted _ sorted_writes (by decide)).trans (at_wrapF_order V)
theorem at_sorted_sorted : at_sorted V (Proc.devRef .tc main_v24) = r_sorted V := by
  rw [at_sorted, sorted_result, at_wrapF_wrapF V, at_wrapF_poolProbs V]; rfl
theorem at_cum_arg0 : at_cum V (Proc.devRef .tc main_arg0) = V (Proc.devRef .tc main_arg0) :=
  (after_of_writes_sub ops_cum _ cum_writes (by decide)).trans (at_sorted_arg0 V)
theorem at_cum_arg1 : at_cum V (Proc.devRef .tc main_arg1) = V (Proc.devRef .tc main_arg1) :=
  (after_of_writes_sub ops_cum _ cum_writes (by decide)).trans (at_sorted_arg1 V)
theorem at_cum_arg2 : at_cum V (Proc.devRef .tc main_arg2) = V (Proc.devRef .tc main_arg2) :=
  (after_of_writes_sub ops_cum _ cum_writes (by decide)).trans (at_sorted_arg2 V)
theorem at_cum_order : at_cum V (Proc.devRef .tc main_v23) = r_order V :=
  (after_of_writes_sub ops_cum _ cum_writes (by decide)).trans (at_sorted_order V)
theorem at_cum_cum : at_cum V (Proc.devRef .tc main_v25) = r_cum V := by
  rw [at_cum, cum_result, at_sorted_sorted V]; rfl
theorem at_total_arg0 : at_total V (Proc.devRef .tc main_arg0) = V (Proc.devRef .tc main_arg0) :=
  (after_of_writes_sub ops_total _ total_writes (by decide)).trans (at_cum_arg0 V)
theorem at_total_arg1 : at_total V (Proc.devRef .tc main_arg1) = V (Proc.devRef .tc main_arg1) :=
  (after_of_writes_sub ops_total _ total_writes (by decide)).trans (at_cum_arg1 V)
theorem at_total_arg2 : at_total V (Proc.devRef .tc main_arg2) = V (Proc.devRef .tc main_arg2) :=
  (after_of_writes_sub ops_total _ total_writes (by decide)).trans (at_cum_arg2 V)
theorem at_total_order : at_total V (Proc.devRef .tc main_v23) = r_order V :=
  (after_of_writes_sub ops_total _ total_writes (by decide)).trans (at_cum_order V)
theorem at_total_cum : at_total V (Proc.devRef .tc main_v25) = r_cum V :=
  (after_of_writes_sub ops_total _ total_writes (by decide)).trans (at_cum_cum V)
theorem at_total_total : at_total V (Proc.devRef .tc main_v26) = r_total V := by
  rw [at_total, total_result, at_cum_cum V]; rfl
theorem at_first_arg0 : at_first V (Proc.devRef .tc main_arg0) = V (Proc.devRef .tc main_arg0) :=
  (after_of_writes_sub ops_first _ first_writes (by decide)).trans (at_total_arg0 V)
theorem at_first_arg1 : at_first V (Proc.devRef .tc main_arg1) = V (Proc.devRef .tc main_arg1) :=
  (after_of_writes_sub ops_first _ first_writes (by decide)).trans (at_total_arg1 V)
theorem at_first_arg2 : at_first V (Proc.devRef .tc main_arg2) = V (Proc.devRef .tc main_arg2) :=
  (after_of_writes_sub ops_first _ first_writes (by decide)).trans (at_total_arg2 V)
theorem at_first_order : at_first V (Proc.devRef .tc main_v23) = r_order V :=
  (after_of_writes_sub ops_first _ first_writes (by decide)).trans (at_total_order V)
theorem at_first_cum : at_first V (Proc.devRef .tc main_v25) = r_cum V :=
  (after_of_writes_sub ops_first _ first_writes (by decide)).trans (at_total_cum V)
theorem at_first_total : at_first V (Proc.devRef .tc main_v26) = r_total V :=
  (after_of_writes_sub ops_first _ first_writes (by decide)).trans (at_total_total V)
theorem at_first_first : at_first V (Proc.devRef .tc main_v32) = r_first V := by
  rw [at_first, first_result, at_total_total V, at_total_cum V]; rfl
theorem at_count_arg0 : at_count V (Proc.devRef .tc main_arg0) = V (Proc.devRef .tc main_arg0) :=
  (after_of_writes_sub ops_count _ count_writes (by decide)).trans (at_first_arg0 V)
theorem at_count_arg1 : at_count V (Proc.devRef .tc main_arg1) = V (Proc.devRef .tc main_arg1) :=
  (after_of_writes_sub ops_count _ count_writes (by decide)).trans (at_first_arg1 V)
theorem at_count_arg2 : at_count V (Proc.devRef .tc main_arg2) = V (Proc.devRef .tc main_arg2) :=
  (after_of_writes_sub ops_count _ count_writes (by decide)).trans (at_first_arg2 V)
theorem at_count_order : at_count V (Proc.devRef .tc main_v23) = r_order V :=
  (after_of_writes_sub ops_count _ count_writes (by decide)).trans (at_first_order V)
theorem at_count_count : at_count V (Proc.devRef .tc main_v40) = r_count V := by
  rw [at_count, count_result, at_first_cum V, at_first_total V, at_first_first V]; rfl
theorem at_kept_arg0 : at_kept V (Proc.devRef .tc main_arg0) = V (Proc.devRef .tc main_arg0) :=
  (after_of_writes_sub ops_kept _ kept_writes (by decide)).trans (at_count_arg0 V)
theorem at_kept_arg1 : at_kept V (Proc.devRef .tc main_arg1) = V (Proc.devRef .tc main_arg1) :=
  (after_of_writes_sub ops_kept _ kept_writes (by decide)).trans (at_count_arg1 V)
theorem at_kept_arg2 : at_kept V (Proc.devRef .tc main_arg2) = V (Proc.devRef .tc main_arg2) :=
  (after_of_writes_sub ops_kept _ kept_writes (by decide)).trans (at_count_arg2 V)
theorem at_kept_order : at_kept V (Proc.devRef .tc main_v23) = r_order V :=
  (after_of_writes_sub ops_kept _ kept_writes (by decide)).trans (at_count_order V)
theorem at_kept_kept : at_kept V (Proc.devRef .tc main_v46) = r_kept V := by
  rw [at_kept, kept_result, at_count_count V]; rfl
theorem at_inverse_arg0 : at_inverse V (Proc.devRef .tc main_arg0) = V (Proc.devRef .tc main_arg0) :=
  (after_of_writes_sub ops_inverse _ inverse_writes (by decide)).trans (at_kept_arg0 V)
theorem at_inverse_arg1 : at_inverse V (Proc.devRef .tc main_arg1) = V (Proc.devRef .tc main_arg1) :=
  (after_of_writes_sub ops_inverse _ inverse_writes (by decide)).trans (at_kept_arg1 V)
theorem at_inverse_arg2 : at_inverse V (Proc.devRef .tc main_arg2) = V (Proc.devRef .tc main_arg2) :=
  (after_of_writes_sub ops_inverse _ inverse_writes (by decide)).trans (at_kept_arg2 V)
theorem at_inverse_kept : at_inverse V (Proc.devRef .tc main_v46) = r_kept V :=
  (after_of_writes_sub ops_inverse _ inverse_writes (by decide)).trans (at_kept_kept V)
theorem at_inverse_inverse : at_inverse V (Proc.devRef .tc main_v47) = r_inverse V := by
  rw [at_inverse, inverse_result, at_kept_order V]; rfl
theorem at_wrapI_arg0 : at_wrapI V (Proc.devRef .tc main_arg0) = V (Proc.devRef .tc main_arg0) :=
  (after_of_writes_sub ops_wrapI _ wrapI_writes (by decide)).trans (at_inverse_arg0 V)
theorem at_wrapI_arg1 : at_wrapI V (Proc.devRef .tc main_arg1) = V (Proc.devRef .tc main_arg1) :=
  (after_of_writes_sub ops_wrapI _ wrapI_writes (by decide)).trans (at_inverse_arg1 V)
theorem at_wrapI_arg2 : at_wrapI V (Proc.devRef .tc main_arg2) = V (Proc.devRef .tc main_arg2) :=
  (after_of_writes_sub ops_wrapI _ wrapI_writes (by decide)).trans (at_inverse_arg2 V)
theorem at_wrapI_kept : at_wrapI V (Proc.devRef .tc main_v46) = r_kept V :=
  (after_of_writes_sub ops_wrapI _ wrapI_writes (by decide)).trans (at_inverse_kept V)
theorem at_wrapI_wrapI : at_wrapI V (Proc.devRef .tc main_call7_v5) = r_wrapI V := by
  rw [at_wrapI, wrapI_result, at_inverse_inverse V]; rfl
theorem at_blockMask_arg0 : at_blockMask V (Proc.devRef .tc main_arg0) = V (Proc.devRef .tc main_arg0) :=
  (after_of_writes_sub ops_blockMask _ blockMask_writes (by decide)).trans (at_wrapI_arg0 V)
theorem at_blockMask_arg1 : at_blockMask V (Proc.devRef .tc main_arg1) = V (Proc.devRef .tc main_arg1) :=
  (after_of_writes_sub ops_blockMask _ blockMask_writes (by decide)).trans (at_wrapI_arg1 V)
theorem at_blockMask_arg2 : at_blockMask V (Proc.devRef .tc main_arg2) = V (Proc.devRef .tc main_arg2) :=
  (after_of_writes_sub ops_blockMask _ blockMask_writes (by decide)).trans (at_wrapI_arg2 V)
theorem at_blockMask_blockMask : at_blockMask V (Proc.devRef .tc main_v48) = r_blockMask V := by
  rw [at_blockMask, blockMask_result, at_wrapI_wrapI V, at_wrapI_kept V]; rfl
theorem at_fullMask_arg0 : at_fullMask V (Proc.devRef .tc main_arg0) = V (Proc.devRef .tc main_arg0) :=
  (after_of_writes_sub ops_fullMask _ fullMask_writes (by decide)).trans (at_blockMask_arg0 V)
theorem at_fullMask_arg1 : at_fullMask V (Proc.devRef .tc main_arg1) = V (Proc.devRef .tc main_arg1) :=
  (after_of_writes_sub ops_fullMask _ fullMask_writes (by decide)).trans (at_blockMask_arg1 V)
theorem at_fullMask_arg2 : at_fullMask V (Proc.devRef .tc main_arg2) = V (Proc.devRef .tc main_arg2) :=
  (after_of_writes_sub ops_fullMask _ fullMask_writes (by decide)).trans (at_blockMask_arg2 V)
theorem at_fullMask_fullMask : at_fullMask V (Proc.devRef .tc main_v52) = r_fullMask V := by
  rw [at_fullMask, fullMask_result, at_blockMask_blockMask V]; rfl
theorem at_masked_arg0 : at_masked V (Proc.devRef .tc main_arg0) = V (Proc.devRef .tc main_arg0) :=
  (after_of_writes_sub ops_masked _ masked_writes (by decide)).trans (at_fullMask_arg0 V)
theorem at_masked_arg1 : at_masked V (Proc.devRef .tc main_arg1) = V (Proc.devRef .tc main_arg1) :=
  (after_of_writes_sub ops_masked _ masked_writes (by decide)).trans (at_fullMask_arg1 V)
theorem at_masked_arg2 : at_masked V (Proc.devRef .tc main_arg2) = V (Proc.devRef .tc main_arg2) :=
  (after_of_writes_sub ops_masked _ masked_writes (by decide)).trans (at_fullMask_arg2 V)
theorem at_masked_masked : at_masked V (Proc.devRef .tc main_v56) = r_masked V := by
  rw [at_masked, masked_result, at_fullMask_arg0 V, at_fullMask_arg1 V, at_fullMask_fullMask V]; rfl
theorem at_weights_arg0 : at_weights V (Proc.devRef .tc main_arg0) = V (Proc.devRef .tc main_arg0) :=
  (after_of_writes_sub ops_weights _ weights_writes (by decide)).trans (at_masked_arg0 V)
theorem at_weights_arg1 : at_weights V (Proc.devRef .tc main_arg1) = V (Proc.devRef .tc main_arg1) :=
  (after_of_writes_sub ops_weights _ weights_writes (by decide)).trans (at_masked_arg1 V)
theorem at_weights_arg2 : at_weights V (Proc.devRef .tc main_arg2) = V (Proc.devRef .tc main_arg2) :=
  (after_of_writes_sub ops_weights _ weights_writes (by decide)).trans (at_masked_arg2 V)
theorem at_weights_weights : at_weights V (Proc.devRef .tc main_v63) = r_weights V := by
  rw [at_weights, weights_result, at_masked_masked V]; rfl
theorem at_probs_arg0 : at_probs V (Proc.devRef .tc main_arg0) = V (Proc.devRef .tc main_arg0) :=
  (after_of_writes_sub ops_probs _ probs_writes (by decide)).trans (at_weights_arg0 V)
theorem at_probs_arg1 : at_probs V (Proc.devRef .tc main_arg1) = V (Proc.devRef .tc main_arg1) :=
  (after_of_writes_sub ops_probs _ probs_writes (by decide)).trans (at_weights_arg1 V)
theorem at_probs_arg2 : at_probs V (Proc.devRef .tc main_arg2) = V (Proc.devRef .tc main_arg2) :=
  (after_of_writes_sub ops_probs _ probs_writes (by decide)).trans (at_weights_arg2 V)
theorem at_probs_probs : at_probs V (Proc.devRef .tc main_v67) = r_probs V := by
  rw [at_probs, probs_result, at_weights_weights V]; rfl
theorem at_attended_arg0 : at_attended V (Proc.devRef .tc main_arg0) = V (Proc.devRef .tc main_arg0) :=
  (after_of_writes_sub ops_attended _ attended_writes (by decide)).trans (at_probs_arg0 V)
theorem at_attended_arg1 : at_attended V (Proc.devRef .tc main_arg1) = V (Proc.devRef .tc main_arg1) :=
  (after_of_writes_sub ops_attended _ attended_writes (by decide)).trans (at_probs_arg1 V)
theorem at_attended_arg2 : at_attended V (Proc.devRef .tc main_arg2) = V (Proc.devRef .tc main_arg2) :=
  (after_of_writes_sub ops_attended _ attended_writes (by decide)).trans (at_probs_arg2 V)
theorem at_attended_attended : at_attended V (Proc.devRef .tc main_v68) = r_attended V := by
  rw [at_attended, attended_result, at_probs_probs V, at_probs_arg2 V]; rfl

/-- Every execution of the reference ends with the result at `r_attended` of the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = r_attended (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v68).trans ((congrFun (after_ops (launchContents m c)) (Proc.devRef .tc main_v68)).trans (at_attended_attended (launchContents m c))),
      (h c main_arg0).trans ((congrFun (after_ops (launchContents m c)) (Proc.devRef .tc main_arg0)).trans (at_attended_arg0 (launchContents m c))),
      (h c main_arg1).trans ((congrFun (after_ops (launchContents m c)) (Proc.devRef .tc main_arg1)).trans (at_attended_arg1 (launchContents m c))),
      (h c main_arg2).trans ((congrFun (after_ops (launchContents m c)) (Proc.devRef .tc main_arg2)).trans (at_attended_arg2 (launchContents m c)))⟩)
    (run_seq scopedRefs_eq scopedSems_eq defs main (fun _ => ops) main_eq (fun _ => ops_sub) m ρ fun _ => ops_fresh)

end Cert.ReferenceIdeal.Stages

end
-- ==== Proof.AttnMath.lean ====
/-
  The mathematics of a softmax taken block by block over the kept blocks: sums of the blocks' own exponentials, each carried
  to the common maximum, divided at the end, are the plain softmax of the scores with the dropped blocks at minus infinity.
-/
module

public import Idealize.ShloMosaic.Lib.Pointwise

@[expose] public section

noncomputable section

namespace Cert.AttnMath

open Idealize.ShloMosaic

/-- A finite sum of reals, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor distributes over any finite sum of extended reals. -/
theorem sum_mul_coe {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- The largest of finitely many reals is a real, and bounds them. -/
theorem sup_coe {n : ℕ} (hn : 0 < n) (f : Fin n → ℝ) : ∃ r : ℝ, (Finset.univ.sup fun t => (f t : EReal)) = (r : EReal) := by
  obtain ⟨i, -, hi⟩ := Finset.exists_mem_eq_sup (Finset.univ : Finset (Fin n)) ⟨⟨0, hn⟩, Finset.mem_univ _⟩ fun t => (f t : EReal)
  exact ⟨f i, hi⟩

variable {m n : ℕ}

/-- A block's largest score. -/
def top1 (s : Fin m → Fin n → EReal) (j : Fin m) : EReal := Finset.univ.sup (s j)
/-- The largest score of the kept blocks. -/
def topK (s : Fin m → Fin n → EReal) (keep : Fin m → Prop) [DecidablePred keep] : EReal :=
  Finset.univ.sup fun j => if keep j then top1 s j else ⊥
/-- The factor carrying a kept block's exponentials to the largest kept score; zero for a dropped block. -/
def carry (s : Fin m → Fin n → EReal) (keep : Fin m → Prop) [DecidablePred keep] (j : Fin m) : EReal :=
  if keep j then Ideal.exp (top1 s j - topK s keep) else 0
/-- The softmax taken block by block, weighting `v`. -/
def tiled (s : Fin m → Fin n → EReal) (keep : Fin m → Prop) [DecidablePred keep] (v : Fin m → Fin n → EReal) : EReal :=
  Ideal.div (∑ j, ∑ t, Ideal.exp (s j t - top1 s j) * carry s keep j * v j t)
    (∑ j, carry s keep j * ∑ t, Ideal.exp (s j t - top1 s j))
/-- The scores with the dropped blocks at minus infinity. -/
def drop (s : Fin m → Fin n → EReal) (keep : Fin m → Prop) [DecidablePred keep] (j : Fin m) (t : Fin n) : EReal :=
  if keep j then s j t else ⊥
/-- The largest of them. -/
def topD (s : Fin m → Fin n → EReal) (keep : Fin m → Prop) [DecidablePred keep] : EReal :=
  Finset.univ.sup fun j => Finset.univ.sup fun t => drop s keep j t
/-- The plain softmax of them, weighting `v`. -/
def plain (s : Fin m → Fin n → EReal) (keep : Fin m → Prop) [DecidablePred keep] (v : Fin m → Fin n → EReal) : EReal :=
  ∑ j, ∑ t, Ideal.div (Ideal.exp (drop s keep j t - topD s keep)) (∑ j', ∑ t', Ideal.exp (drop s keep j' t' - topD s keep)) * v j t

theorem topD_eq (s : Fin m → Fin n → EReal) (keep : Fin m → Prop) [DecidablePred keep] : topD s keep = topK s keep := by
  unfold topD topK
  refine Finset.sup_congr rfl fun j _ => ?_
  by_cases h : keep j
  · simp [drop, h, top1]
  · simp [drop, h]

/-- With real scores and a kept block, the two are equal, whatever the values. -/
theorem tiled_eq_plain (hn : 0 < n) (s : Fin m → Fin n → ℝ) (keep : Fin m → Prop) [DecidablePred keep] (hk : ∃ j, keep j) (v : Fin m → Fin n → EReal) :
    tiled (fun j t => (s j t : EReal)) keep v = plain (fun j t => (s j t : EReal)) keep v := by
  obtain ⟨j0, hj0⟩ := hk
  choose mr hmr using fun j => sup_coe hn (s j)
  have hM : ∃ r : ℝ, topK (fun j t => (s j t : EReal)) keep = (r : EReal) := by
    obtain ⟨i, -, hi⟩ := Finset.exists_mem_eq_sup (Finset.univ : Finset (Fin m)) ⟨j0, Finset.mem_univ _⟩
      fun j => if keep j then top1 (fun j t => (s j t : EReal)) j else ⊥
    by_cases h : keep i
    · refine ⟨mr i, ?_⟩
      show (Finset.univ.sup fun j => if keep j then top1 (fun j t => (s j t : EReal)) j else ⊥) = _
      rw [hi, if_pos h]
      exact hmr i
    · exfalso
      rw [if_neg h] at hi
      have hle := Finset.le_sup (f := fun j => if keep j then top1 (fun j t => (s j t : EReal)) j else ⊥) (Finset.mem_univ j0)
      rw [hi] at hle
      simp only [hj0, if_true] at hle
      rw [show top1 (fun j t => (s j t : EReal)) j0 = (mr j0 : EReal) from hmr j0] at hle
      exact absurd (le_bot_iff.mp hle) (EReal.coe_ne_bot _)
  obtain ⟨Mr, hMr⟩ := hM
  have htop : ∀ j, top1 (fun j t => (s j t : EReal)) j = (mr j : EReal) := hmr
  let w : Fin m → Fin n → ℝ := fun j t => if keep j then Real.exp (s j t - Mr) else 0
  have hw0 : ∀ j t, 0 ≤ w j t := fun j t => by
    by_cases h : keep j
    · simp only [w, h, if_true]; exact (Real.exp_pos _).le
    · simp only [w, h, if_false]; exact le_refl _
  have hcarry : ∀ j, carry (fun j t => (s j t : EReal)) keep j = ((if keep j then Real.exp (mr j - Mr) else 0 : ℝ) : EReal) := fun j => by
    by_cases h : keep j
    · simp only [carry, h, if_true, htop, hMr, ← EReal.coe_sub, Ideal.exp_coe]
    · simp only [carry, h, if_false, EReal.coe_zero]
  have he : ∀ j t, Ideal.exp ((s j t : EReal) - top1 (fun j t => (s j t : EReal)) j) = (Real.exp (s j t - mr j) : EReal) := fun j t => by
    rw [htop, ← EReal.coe_sub, Ideal.exp_coe]
  have hprod : ∀ j t, Real.exp (s j t - mr j) * (if keep j then Real.exp (mr j - Mr) else 0) = w j t := fun j t => by
    by_cases h : keep j
    · simp only [w, h, if_true, ← Real.exp_add]
      congr 1
      ring
    · simp only [w, h, if_false, mul_zero]
  have hdrop : ∀ j t, Ideal.exp (drop (fun j t => (s j t : EReal)) keep j t - topD (fun j t => (s j t : EReal)) keep) = (w j t : EReal) := fun j t => by
    rw [topD_eq, hMr]
    by_cases h : keep j
    · simp only [drop, w, h, if_true, ← EReal.coe_sub, Ideal.exp_coe]
    · simp only [drop, w, h, if_false, EReal.bot_sub, Ideal.exp_bot, EReal.coe_zero]
  have hden : (∑ j, carry (fun j t => (s j t : EReal)) keep j * ∑ t, Ideal.exp ((s j t : EReal) - top1 (fun j t => (s j t : EReal)) j))
      = ((∑ j, ∑ t, w j t : ℝ) : EReal) := by
    rw [coe_sum]
    refine Finset.sum_congr rfl fun j _ => ?_
    simp only [he, hcarry]
    rw [← coe_sum, ← EReal.coe_mul, Finset.mul_sum]
    refine congrArg _ (Finset.sum_congr rfl fun t _ => ?_)
    rw [mul_comm, hprod]
  have hpos : 0 < ∑ j, ∑ t, w j t := by
    refine lt_of_lt_of_le ?_ (Finset.single_le_sum (f := fun j => ∑ t, w j t) (fun j _ => Finset.sum_nonneg fun t _ => hw0 j t) (Finset.mem_univ j0))
    refine lt_of_lt_of_le ?_ (Finset.single_le_sum (f := fun t => w j0 t) (fun t _ => hw0 j0 t) (Finset.mem_univ (⟨0, hn⟩ : Fin n)))
    simp only [w, hj0, if_true]
    exact Real.exp_pos _
  have hc : 0 ≤ 1 / ∑ j, ∑ t, w j t := by positivity
  unfold tiled plain
  simp only [hdrop, hden]
  simp only [← coe_sum]
  rw [Ideal.div_coe hpos.ne', sum_mul_coe _ _ _ hc]
  refine Finset.sum_congr rfl fun j _ => ?_
  rw [sum_mul_coe _ _ _ hc]
  refine Finset.sum_congr rfl fun t _ => ?_
  rw [Ideal.div_coe hpos.ne', he, hcarry, ← EReal.coe_mul, hprod]
  exact mul_right_comm _ _ _

end Cert.AttnMath
-- ==== Proof.MaskMath.lean ====
/-
  The mathematics of the block selection. Counting, for each block, the blocks that come before it in decreasing order (the
  earlier of equal ones first) gives its place in the stable sort; so prefix sums by place are prefix sums in sorted order, and
  the number of prefix sums below a threshold is the first place that reaches it.
-/
module

public import Idealize.ShloMosaic.Lib.Pointwise
public import Idealize.ShloMosaic.Lib.SortFacts

@[expose] public section

noncomputable section

namespace Cert.MaskMath

open Idealize.ShloMosaic

section order

variable {n : ℕ} {α : Type} [LinearOrder α] (p : Fin n → α)

/-- Entry `x` comes before entry `c`: it is larger, or equal and earlier. -/
def Prec (x c : Fin n) : Prop := p c < p x ∨ (p x = p c ∧ x < c)
instance (x c : Fin n) : Decidable (Prec p x c) := inferInstanceAs (Decidable (_ ∨ _))
/-- How many entries come before entry `c`. -/
def rk (c : Fin n) : ℕ := (Finset.univ.filter fun x => Prec p x c).card
/-- The stable sort into decreasing order: the entry at each place. -/
def ord : Fin n → Fin n := sortedFrom fun a b => decide (p b < p a)
/-- The sort of the places by the entries they hold. -/
def back (σ : Fin n → Fin n) : Fin n → Fin n := sortedFrom fun a b => decide (σ a < σ b)

theorem prec_irrefl (a : Fin n) : ¬ Prec p a a := by simp [Prec]
theorem prec_trans {a b c : Fin n} (h : Prec p a b) (k : Prec p b c) : Prec p a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩
theorem prec_total {a b : Fin n} (h : a ≠ b) : Prec p a b ∨ Prec p b a := by
  rcases lt_trichotomy (p a) (p b) with hp | hp | hp
  · exact Or.inr (Or.inl hp)
  · rcases lt_or_gt_of_ne h with k | k
    · exact Or.inl (Or.inr ⟨hp, k⟩)
    · exact Or.inr (Or.inr ⟨hp.symm, k⟩)
  · exact Or.inl (Or.inl hp)

/-- On a list in increasing order the stable sort keeps equal entries in place, so it sorts by `Prec`. -/
theorem stableSort_eq (l : List (Fin n)) (hl : l.Pairwise (· < ·)) :
    stableSort (fun a b => decide (p b < p a)) l = stableSort (fun a b => decide (Prec p a b)) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    have : (p a < p b) ↔ Prec p b a := ⟨Or.inl, fun h => h.elim id fun h => absurd (h.2.trans hab) (lt_irrefl _)⟩
    simp only [this]

theorem ord_eq : ord p = sortedFrom fun a b => decide (Prec p a b) := by
  have h : sortPositions n (fun a b => decide (p b < p a)) = sortPositions n fun a b => decide (Prec p a b) := by
    unfold sortPositions
    exact stableSort_eq p _ (List.pairwise_lt_finRange n)
  have key : ∀ (l l' : List (Fin n)) (_ : l = l') (k : Fin n) (e : n = l.length) (e' : n = l'.length), l.get (k.cast e) = l'.get (k.cast e') := by
    rintro l _ rfl k e e'
    rfl
  funext k
  exact key _ _ h k _ _

theorem ord_injective : Function.Injective (ord p) := sortedFrom_injective _
theorem ord_surjective : Function.Surjective (ord p) := sortedFrom_surjective _

theorem ord_prec {i j : Fin n} (hij : i < j) : Prec p (ord p i) (ord p j) := by
  have h := sortedFrom_noInversion (fun a b => decide (Prec p a b)) (fun a b => decide (Prec p a b))
    (fun a b h => decide_eq_false fun k => prec_irrefl p a (prec_trans p (of_decide_eq_true h) k)) (fun _ _ h => h)
    (fun a b c h k => decide_eq_false fun q => by
      have h' := of_decide_eq_false h
      have k' := of_decide_eq_false k
      by_cases hab : a = b
      · exact k' (hab ▸ q)
      · have hba := (prec_total p hab).resolve_left h'
        exact k' (prec_trans p hba q)) i j hij
  rw [← ord_eq] at h
  exact (prec_total p fun e => absurd (ord_injective p e) hij.ne).resolve_right (of_decide_eq_false h)

theorem ord_prec_iff (i j : Fin n) : Prec p (ord p i) (ord p j) ↔ i < j := by
  refine ⟨fun h => ?_, ord_prec p⟩
  rcases lt_trichotomy i j with k | k | k
  · exact k
  · exact absurd h (k ▸ prec_irrefl p _)
  · exact absurd (prec_trans p h (ord_prec p k)) (prec_irrefl p _)

/-- The entry at place `k` has `k` entries before it. -/
theorem rk_ord (k : Fin n) : rk p (ord p k) = k.val := by
  unfold rk
  rw [show (Finset.univ.filter fun x => Prec p x (ord p k)) = (Finset.univ.filter fun i : Fin n => i < k).map ⟨ord p, ord_injective p⟩ by
    ext x
    simp only [Finset.mem_filter, Finset.mem_univ, true_and, Finset.mem_map, Function.Embedding.coeFn_mk]
    constructor
    · intro h
      obtain ⟨i, rfl⟩ := ord_surjective p x
      exact ⟨i, (ord_prec_iff p i k).mp h, rfl⟩
    · rintro ⟨i, hi, rfl⟩
      exact (ord_prec_iff p i k).mpr hi]
  rw [Finset.card_map]
  exact (congrArg Finset.card (by ext; simp)).trans (Fin.card_Iio k)

/-- The sort of the places by their entries is the inverse of the sort. -/
theorem ord_back (c : Fin n) : ord p (back (ord p) c) = c := by
  have hm : StrictMono fun c => ord p (back (ord p) c) := fun i j hij => by
    have h := sortedFrom_noInversion (fun a b => decide (ord p a < ord p b)) (fun a b => decide (ord p a < ord p b))
      (fun a b h => decide_eq_false fun k => absurd ((of_decide_eq_true h).trans k) (lt_irrefl _)) (fun _ _ h => h)
      (fun a b c h k => decide_eq_false (not_lt.mpr ((not_lt.mp (of_decide_eq_false k)).trans (not_lt.mp (of_decide_eq_false h))))) i j hij
    refine lt_of_le_of_ne (not_lt.mp (of_decide_eq_false h)) fun e => ?_
    exact absurd (sortedFrom_injective _ (ord_injective p e)) hij.ne
  have hs : Function.Surjective fun c => ord p (back (ord p) c) := (ord_surjective p).comp (sortedFrom_surjective _)
  have := (StrictMono.range_inj hm (strictMono_id (α := Fin n))).mp (by rw [hs.range_eq]; exact Set.range_id.symm)
  exact congrFun this c

theorem back_ord (c : Fin n) : (back (ord p) c).val = rk p c := by
  conv_rhs => rw [← ord_back p c]
  exact (rk_ord p _).symm

theorem rk_lt (c : Fin n) : rk p c < n := by rw [← back_ord]; exact Fin.isLt _

/-- A count of larger entries and a count of equal earlier ones add up to the place. -/
theorem rk_split (c : Fin n) : rk p c = (Finset.univ.filter fun x => p c < p x).card
    + (Finset.univ.filter fun x : Fin c.val => p ⟨x.val, x.isLt.trans c.isLt⟩ = p c).card := by
  have h1 : (Finset.univ.filter fun x => Prec p x c) = (Finset.univ.filter fun x => p c < p x) ∪ (Finset.univ.filter fun x => p x = p c ∧ x < c) := by
    ext x
    simp only [Finset.mem_filter, Finset.mem_univ, true_and, Finset.mem_union]
    exact Iff.rfl
  have h2 : (Finset.univ.filter fun x : Fin n => p x = p c ∧ x < c)
      = (Finset.univ.filter fun x : Fin c.val => p ⟨x.val, x.isLt.trans c.isLt⟩ = p c).map ⟨fun x => ⟨x.val, x.isLt.trans c.isLt⟩, fun a b h => Fin.ext (Fin.mk.inj h)⟩ := by
    ext x
    simp only [Finset.mem_filter, Finset.mem_univ, true_and, Finset.mem_map, Function.Embedding.coeFn_mk]
    constructor
    · rintro ⟨h, k⟩
      exact ⟨⟨x.val, k⟩, h, rfl⟩
    · rintro ⟨y, h, rfl⟩
      exact ⟨h, y.isLt⟩
  unfold rk
  rw [h1, Finset.card_union_of_disjoint, h2, Finset.card_map]
  rw [Finset.disjoint_filter]
  exact fun x _ h k => absurd k.1 h.ne'

end order

section sums

variable {n : ℕ}

/-- A sum of zeros and ones counts. -/
theorem sum_ind {ι : Type} [Fintype ι] (Q : ι → Prop) [DecidablePred Q] : (∑ x, if Q x then (1 : EReal) else 0) = ((Finset.univ.filter Q).card : ℕ) :=
  Finset.sum_boole _ _

variable (p : Fin n → EReal)

/-- The sum of the first entries in sorted order, through place `c`. -/
def cum (c : Fin n) : EReal := ∑ k, if k.val ≤ c.val then p (ord p k) else 0

/-- A sum by place is a sum in sorted order. -/
theorem sum_place (c : Fin n) : (∑ x, if rk p x ≤ c.val then p x else 0) = cum p c := by
  unfold cum
  refine (Equiv.sum_comp (Equiv.ofBijective (ord p) ⟨ord_injective p, ord_surjective p⟩) _).symm.trans (Finset.sum_congr rfl fun k _ => ?_)
  show (if rk p (ord p k) ≤ c.val then p (ord p k) else 0) = _
  rw [rk_ord]

theorem cum_mono (hp : ∀ x, 0 ≤ p x) : Monotone (cum p) := fun a b hab => by
  refine Finset.sum_le_sum fun k _ => ?_
  by_cases h : k.val ≤ a.val
  · rw [if_pos h, if_pos (h.trans hab)]
  · rw [if_neg h]
    split
    · exact hp _
    · exact le_refl _

theorem cum_nonneg (hp : ∀ x, 0 ≤ p x) (c : Fin n) : 0 ≤ cum p c := Finset.sum_nonneg fun k _ => by
  split
  · exact hp _
  · exact le_refl _

/-- Of a nondecreasing row, the number of entries below a threshold is the first place that reaches it. -/
theorem count_first (C : Fin n → EReal) (hC : Monotone C) (T : EReal) (f : Fin n) (hf : T ≤ C f) (hmin : ∀ k, k < f → C k < T) :
    (Finset.univ.filter fun c => C c < T).card = f.val := by
  rw [show (Finset.univ.filter fun c => C c < T) = Finset.Iio f by
    ext c
    simp only [Finset.mem_filter, Finset.mem_univ, true_and, Finset.mem_Iio]
    exact ⟨fun h => lt_of_not_ge fun k => absurd (hf.trans (hC k)) (not_le.mpr h), hmin c⟩]
  exact Fin.card_Iio f

end sums

end Cert.MaskMath
-- ==== Proof.Consts.lean ====
/- The literals both programs use, as the numbers they are. -/
module

public import Idealize.ShloMosaic.Lib.Pointwise

@[expose] public section

noncomputable section

namespace Cert.Consts

open Idealize.ShloMosaic

theorem c0 : Ideal.ofBits .f32 0x00000000#32 = ((0 : ℝ) : EReal) := by simp [Ideal.ofBits, Ideal.ieee]
theorem c1 : Ideal.ofBits .f32 0x3F800000#32 = ((1 : ℝ) : EReal) := by simp [Ideal.ofBits, Ideal.ieee, -EReal.coe_mul]; norm_num
theorem c11 : Ideal.ofBits .f32 0x41300000#32 = ((11 : ℝ) : EReal) := by simp [Ideal.ofBits, Ideal.ieee, -EReal.coe_mul]; norm_num
theorem c128 : Ideal.ofBits .f32 0x43000000#32 = ((128 : ℝ) : EReal) := by simp [Ideal.ofBits, Ideal.ieee, -EReal.coe_mul]; norm_num
theorem cbot : Ideal.ofBits .f32 0xFF800000#32 = ⊥ := by simp [Ideal.ofBits, Ideal.ieee]
theorem ctop : Ideal.ofBits .f32 0x7F800000#32 = ⊤ := by simp [Ideal.ofBits, Ideal.ieee]
theorem cscale : ∃ r : ℝ, Ideal.ofBits .f32 0x3DB504F3#32 = (r : EReal) := ⟨11863283 * (2 ^ 27)⁻¹, by simp [Ideal.ofBits, Ideal.ieee]⟩
theorem cthr : ∃ r : ℝ, 0 ≤ r ∧ r ≤ 1 ∧ Ideal.ofBits .f32 0x3F733333#32 = (r : EReal) :=
  ⟨15938355 * (2 ^ 24)⁻¹, by norm_num, by norm_num, by simp [Ideal.ofBits, Ideal.ieee]⟩

/-- The numbers 0 to 15 as the mask body spells them. -/
def lit : Fin 16 → BitVec 32 := ![0x00000000#32, 0x3F800000#32, 0x40000000#32, 0x40400000#32, 0x40800000#32, 0x40A00000#32, 0x40C00000#32, 0x40E00000#32,
  0x41000000#32, 0x41100000#32, 0x41200000#32, 0x41300000#32, 0x41400000#32, 0x41500000#32, 0x41600000#32, 0x41700000#32]
theorem clit (k : Fin 16) : Ideal.ofBits .f32 (lit k) = ((k.val : ℕ) : EReal) := by
  rw [← EReal.coe_coe_eq_natCast]
  fin_cases k <;> (simp [lit, Ideal.ofBits, Ideal.ieee, -EReal.coe_mul]; try norm_num)

end Cert.Consts
-- ==== Proof.Spec.lean ====
/-
  The block-sparse attention as mathematics over the extended reals: pooled block scores, their softmax, the blocks kept in each
  row, and the softmax of the scores restricted to them.
-/
module

public import proofs.«01_k».proof.Proof.AttnMath
public import proofs.«01_k».proof.Proof.MaskMath
public import proofs.«01_k».proof.Proof.Consts

@[expose] public section

noncomputable section

namespace Cert.Spec

open Idealize.ShloMosaic

/-- One head-indexed operand. -/
abbrev Arg := Fin 16 → Fin 2048 → Fin 128 → EReal
/-- Row `t` of block `r`. -/
def blk (r : Fin 16) (t : Fin 128) : Fin 2048 := ⟨r.val * 128 + t.val, by have := r.isLt; have := t.isLt; omega⟩
/-- The block a row lies in. -/
def blkOf (a : Fin 2048) : Fin 16 := ⟨a.val / 128, by have := a.isLt; omega⟩

/-- A block's mean row. -/
def pool (q : Arg) (h r : Fin 16) (x : Fin 128) : EReal := Ideal.div (∑ t, q h (blk r t) x) (Ideal.ofBits .f32 0x43000000#32)
/-- The scaled score of two mean rows. -/
def bscore (q k : Arg) (h r c : Fin 16) : EReal := (∑ x, pool q h r x * pool k h c x) * Ideal.ofBits .f32 0x3DB504F3#32
/-- Its exponential less the row's largest. -/
def bexp (q k : Arg) (h r c : Fin 16) : EReal := Ideal.exp (bscore q k h r c - Finset.univ.sup fun c' => bscore q k h r c')
/-- The softmax over the blocks. -/
def bprob (q k : Arg) (h r c : Fin 16) : EReal := Ideal.div (bexp q k h r c) (∑ c', bexp q k h r c')
/-- How many blocks a row keeps. -/
def nkeep (p : Fin 16 → EReal) : ℕ :=
  min 11 (max 1 (Finset.univ.filter fun c => MaskMath.cum p c < Ideal.ofBits .f32 0x3F733333#32 * MaskMath.cum p 15).card)
/-- Which blocks. -/
def keep (q k : Arg) (h r c : Fin 16) : Prop := MaskMath.rk (bprob q k h r) c < nkeep (bprob q k h r)
instance (q k : Arg) (h r : Fin 16) : DecidablePred (keep q k h r) := fun _ => inferInstanceAs (Decidable (_ < _))
/-- The scaled score of two rows. -/
def score (q k : Arg) (h : Fin 16) (a b : Fin 2048) : EReal := (∑ x, q h a x * k h b x) * Ideal.ofBits .f32 0x3DB504F3#32
/-- The attention. -/
def out (q k v : Arg) (h : Fin 16) (a : Fin 2048) (b : Fin 128) : EReal :=
  AttnMath.plain (fun j t => score q k h a (blk j t)) (keep q k h (blkOf a)) fun j t => v h (blk j t) b

/-- A running maximum from minus infinity is the largest. -/
theorem fold_sup {n : ℕ} (f : Fin n → EReal) : Finset.fold max ⊥ f Finset.univ = Finset.univ.sup f := rfl

/-- Every entry is a real number. -/
def IsReal (q : Arg) : Prop := ∀ h a x, ∃ r : ℝ, q h a x = (r : EReal)

variable {q k : Arg}

theorem real_sum {n : ℕ} {f : Fin n → EReal} (hf : ∀ i, ∃ r : ℝ, f i = (r : EReal)) : ∃ r : ℝ, (∑ i, f i) = (r : EReal) := by
  choose g hg using hf
  exact ⟨∑ i, g i, by rw [AttnMath.coe_sum]; exact Finset.sum_congr rfl fun i _ => hg i⟩
theorem real_mul {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul r s).symm⟩

theorem real_pool (hq : IsReal q) (h r : Fin 16) (x : Fin 128) : ∃ y : ℝ, pool q h r x = (y : EReal) := by
  obtain ⟨y, hy⟩ := real_sum fun t => hq h (blk r t) x
  unfold pool
  rw [Consts.c128, Ideal.div_coe (by norm_num), hy]
  exact ⟨_, (EReal.coe_mul _ _).symm⟩
theorem real_bscore (hq : IsReal q) (hk : IsReal k) (h r c : Fin 16) : ∃ y : ℝ, bscore q k h r c = (y : EReal) :=
  real_mul (real_sum fun x => real_mul (real_pool hq h r x) (real_pool hk h c x)) Consts.cscale
theorem real_score (hq : IsReal q) (hk : IsReal k) (h : Fin 16) (a b : Fin 2048) : ∃ y : ℝ, score q k h a b = (y : EReal) :=
  real_mul (real_sum fun x => real_mul (hq h a x) (hk h b x)) Consts.cscale

theorem bexp_pos (hq : IsReal q) (hk : IsReal k) (h r c : Fin 16) : ∃ y : ℝ, 0 < y ∧ bexp q k h r c = (y : EReal) := by
  choose s hs using fun c => real_bscore hq hk h r c
  obtain ⟨M, hM⟩ := AttnMath.sup_coe (by norm_num) s
  unfold bexp
  simp only [hs, hM, ← EReal.coe_sub, Ideal.exp_coe]
  exact ⟨_, Real.exp_pos _, rfl⟩

theorem bprob_nonneg (hq : IsReal q) (hk : IsReal k) (h r c : Fin 16) : 0 ≤ bprob q k h r c := by
  choose y hy0 hy using fun c => bexp_pos hq hk h r c
  unfold bprob
  simp only [hy]
  rw [← AttnMath.coe_sum, Ideal.div_coe (Finset.sum_pos (fun c _ => hy0 c) ⟨0, Finset.mem_univ _⟩).ne', ← EReal.coe_mul]
  exact EReal.coe_nonneg.mpr (mul_nonneg (hy0 c).le (by have := Finset.sum_pos (fun c _ => hy0 c) ⟨(0 : Fin 16), Finset.mem_univ _⟩; positivity))

/-- The last running sum reaches the threshold. -/
theorem thr_le (p : Fin 16 → EReal) (hp : ∀ c, 0 ≤ p c) : Ideal.ofBits .f32 0x3F733333#32 * MaskMath.cum p 15 ≤ MaskMath.cum p 15 := by
  obtain ⟨t, h0, h1, ht⟩ := Consts.cthr
  rw [ht]
  calc (t : EReal) * MaskMath.cum p 15 ≤ 1 * MaskMath.cum p 15 :=
        mul_le_mul_of_nonneg_right (by exact_mod_cast h1) (MaskMath.cum_nonneg p hp 15)
    _ = _ := one_mul _

/-- Some block is kept. -/
theorem exists_keep (q k : Arg) (h r : Fin 16) : ∃ c, keep q k h r c :=
  ⟨MaskMath.ord (bprob q k h r) 0, by
    unfold keep
    rw [MaskMath.rk_ord]
    unfold nkeep
    simp⟩

end Cert.Spec
-- ==== Proof.RefRead.lean ====
/- The reference's stages read at an index, over the extended reals. -/
module

public import proofs.«01_k».proof.Proof.RefRun
public import proofs.«01_k».proof.Proof.Spec
public import Idealize.ShloMosaic.Lib.Pointwise

@[expose] public section

noncomputable section

namespace Cert.ReferenceIdeal.Read

open Cert.ReferenceIdeal Cert.ReferenceIdeal.Gen Idealize.ShloMosaic Stages

/-- An operand by head, row and column. -/
def argOf (x : FVec Ideal S1x16x2048x128 .f32) : Spec.Arg := fun h a b => x (ix4 0 h a b)

theorem poolScores_at (q k : FVec Ideal S1x16x2048x128 .f32) (h r c : Fin 16) :
    poolScores (F := Ideal) q k (ix4 0 h r c) = Spec.bscore (argOf q) (argOf k) h r c := by
  pointwise [poolScores]
  rfl

theorem poolExp_at (s : FVec Ideal S1x16x16x16 .f32) (h r c : Fin 16) :
    poolExp (F := Ideal) s (ix4 0 h r c) = Ideal.exp (s (ix4 0 h r c) - Finset.univ.sup fun c' : Fin 16 => s (ix4 0 h r c')) := by
  pointwise [poolExp]
  rw [Consts.cbot, max_eq_right bot_le, Spec.fold_sup]

theorem poolProbs_at (s : FVec Ideal S1x16x16x16 .f32) (h r c : Fin 16) :
    poolProbs (F := Ideal) s (ix4 0 h r c) = Ideal.div (s (ix4 0 h r c)) (∑ c' : Fin 16, s (ix4 0 h r c')) := by
  pointwise [poolProbs]

/-- A word of four bits is not negative. -/
theorem toInt_small (k : Fin 16) : (BitVec.ofNat 32 k.val).toInt = k.val := by revert k; decide

/-- The index with its last coordinate moved. -/
theorem along_last (h r c k : Fin 16) : Shape.Idx.along (s := S1x16x16x16) (ix4 (0 : Fin 1) h r c) (3 : Fin 4) k = ix4 0 h r k := by
  funext a
  match a with
  | ⟨0, _⟩ => rfl
  | ⟨1, _⟩ => rfl
  | ⟨2, _⟩ => rfl
  | ⟨3, _⟩ => rfl

/-- The sort's comparator over the extended reals: strictly less in the keys. -/
theorem comparator_f (l r : EReal × BitVec 32) : comparator_f32_i32_d3 (F := Ideal) l r = BitVec.ofBool (decide (l.1 < r.1)) := by
  have hz : ∀ x : EReal, Scalar.select (FloatOps.cmpf (F := Ideal) (φ := .f32) .une x x) (FloatOps.ofBits .f32 0x7FC00000#32 : Ideal .f32)
      (Scalar.select (FloatOps.cmpf (F := Ideal) (φ := .f32) .oeq x (FloatOps.ofBits .f32 0x00000000#32)) (FloatOps.ofBits .f32 0x00000000#32 : Ideal .f32) x) = x := fun x => by
    show Scalar.select (Ideal.cmp .une x x) (Ideal.ofBits .f32 0x7FC00000#32) (Scalar.select (Ideal.cmp .oeq x (Ideal.ofBits .f32 0x00000000#32)) (Ideal.ofBits .f32 0x00000000#32) x) = x
    rw [Consts.c0]
    by_cases h : x = ((0 : ℝ) : EReal)
    · simp [Ideal.cmp, Scalar.select, h]
    · have h' : x ≠ 0 := h
      simp [Ideal.cmp, Scalar.select, h']
  show Ideal.cmpTotal .lt _ _ = _
  refine (congrArg₂ (Ideal.cmpTotal .lt) (hz l.1) (hz r.1)).trans ?_
  rfl

theorem order_at (p : FVec Ideal S1x16x16x16 .f32) (h r c : Fin 16) :
    order (F := Ideal) p (ix4 0 h r c) = BitVec.ofNat 32 (MaskMath.ord (fun c' => p (ix4 0 h r c')) c).val := by
  have hs : (fun k k' : Fin 16 => comparator_f32_i32_d3 (F := Ideal) (Host.negf p (ix4 0 h r k), iotaInDim S1x16x16x16 32 3 (ix4 0 h r k)) (Host.negf p (ix4 0 h r k'), iotaInDim S1x16x16x16 32 3 (ix4 0 h r k')) == 1#1)
      = fun k k' => decide (p (ix4 0 h r k') < p (ix4 0 h r k)) := by
    funext k k'
    rw [comparator_f]
    show (BitVec.ofBool (decide (-(p (ix4 0 h r k)) < -(p (ix4 0 h r k')))) == 1#1) = _
    simp only [EReal.neg_lt_neg_iff]
    cases decide (p (ix4 0 h r k') < p (ix4 0 h r k)) <;> rfl
  show iotaInDim S1x16x16x16 32 3 (Shape.Idx.along (s := S1x16x16x16) (ix4 (0 : Fin 1) h r c) (3 : Fin 4) (sortedFrom (n := 16) (fun k k' : Fin 16 =>
      comparator_f32_i32_d3 (F := Ideal) (Host.negf p (Shape.Idx.along (s := S1x16x16x16) (ix4 (0 : Fin 1) h r c) (3 : Fin 4) k), iotaInDim S1x16x16x16 32 3 (Shape.Idx.along (s := S1x16x16x16) (ix4 (0 : Fin 1) h r c) (3 : Fin 4) k))
        (Host.negf p (Shape.Idx.along (s := S1x16x16x16) (ix4 (0 : Fin 1) h r c) (3 : Fin 4) k'), iotaInDim S1x16x16x16 32 3 (Shape.Idx.along (s := S1x16x16x16) (ix4 (0 : Fin 1) h r c) (3 : Fin 4) k')) == 1#1) c)) = _
  simp only [along_last]
  rw [hs]
  rfl

theorem inverse_at (i : IVec S1x16x16x16 32) (h r c : Fin 16) (σ : Fin 16 → Fin 16) (hi : ∀ c, i (ix4 0 h r c) = BitVec.ofNat 32 (σ c).val) :
    inverse (F := Ideal) i (ix4 0 h r c) = BitVec.ofNat 32 (MaskMath.back σ c).val := by
  have hs : (fun k k' : Fin 16 => comparator_i32_i32_d3 (i (ix4 0 h r k), iotaInDim S1x16x16x16 32 3 (ix4 0 h r k)) (i (ix4 0 h r k'), iotaInDim S1x16x16x16 32 3 (ix4 0 h r k')) == 1#1)
      = fun k k' => decide (σ k < σ k') := by
    funext k k'
    show (IntOp.cmpi .slt (i (ix4 0 h r k)) (i (ix4 0 h r k')) == 1#1) = _
    rw [hi, hi]
    generalize σ k = a
    generalize σ k' = b
    revert a b
    decide
  show iotaInDim S1x16x16x16 32 3 (Shape.Idx.along (s := S1x16x16x16) (ix4 (0 : Fin 1) h r c) (3 : Fin 4) (sortedFrom (n := 16) (fun k k' : Fin 16 =>
      comparator_i32_i32_d3 (i (Shape.Idx.along (s := S1x16x16x16) (ix4 (0 : Fin 1) h r c) (3 : Fin 4) k), iotaInDim S1x16x16x16 32 3 (Shape.Idx.along (s := S1x16x16x16) (ix4 (0 : Fin 1) h r c) (3 : Fin 4) k))
        (i (Shape.Idx.along (s := S1x16x16x16) (ix4 (0 : Fin 1) h r c) (3 : Fin 4) k'), iotaInDim S1x16x16x16 32 3 (Shape.Idx.along (s := S1x16x16x16) (ix4 (0 : Fin 1) h r c) (3 : Fin 4) k')) == 1#1) c)) = _
  simp only [along_last]
  rw [hs]
  rfl

theorem gather_at {α : Type} (x : S1x16x16x16.Idx → α) (i : IVec S16x16x16x1 32) (h r c k : Fin 16) (hk : i (ix4 h r c 0) = BitVec.ofNat 32 k.val) :
    Host.gather gather_S1x16x16x16_S16x16x16x1_S1x16x16x16_0_3_12_01_3_3_1111 x i (ix4 0 h r c) = x (ix4 0 h r k) := by
  unfold Host.gather
  refine congrArg x (funext fun a => Fin.ext ?_)
  match a with
  | ⟨0, _⟩ => rfl
  | ⟨1, _⟩ =>
    show 0 + h.val + 0 = h.val
    omega
  | ⟨2, _⟩ =>
    show 0 + r.val + 0 = r.val
    omega
  | ⟨3, _⟩ =>
    show min (i (GatherDims.siIdx gather_S1x16x16x16_S16x16x16x1_S1x16x16x16_0_3_12_01_3_3_1111 (ix4 0 h r c) ⟨0, by decide⟩)).toInt.toNat 15 = k.val
    have hi : GatherDims.siIdx gather_S1x16x16x16_S16x16x16x1_S1x16x16x16_0_3_12_01_3_3_1111 (ix4 0 h r c) ⟨0, by decide⟩ = ix4 h r c 0 := by
      funext a
      match a with
      | ⟨0, _⟩ => rfl
      | ⟨1, _⟩ => rfl
      | ⟨2, _⟩ => rfl
      | ⟨3, _⟩ => rfl
    rw [hi, hk, toInt_small]
    have := k.isLt
    simp only [Int.toNat_natCast]
    omega

theorem andi_fold (f : Fin 1 → BitVec 1) (h : f 0 = 1#1) : Finset.fold IntOp.andi 1#1 f Finset.univ = 1#1 := by
  rw [show (Finset.univ : Finset (Fin 1)) = {0} from rfl, Finset.fold_singleton, h]
  rfl

theorem wrap_small (k : Fin 16) : Scalar.select (IntOp.cmpi .slt (BitVec.ofNat 32 k.val) 0#32) (IntOp.addi (BitVec.ofNat 32 k.val) 16#32) (BitVec.ofNat 32 k.val)
    = BitVec.ofNat 32 k.val := by
  revert k
  decide
theorem range_small (k : Fin 16) : IntOp.andi (IntOp.cmpi .sge (BitVec.ofNat 32 k.val) 0#32) (IntOp.cmpi .sle (BitVec.ofNat 32 k.val) 15#32) = 1#1 := by
  revert k
  decide

theorem wrapF_at (s : IVec S1x16x16x16 32) (h r c k : Fin 16) (hk : s (ix4 0 h r c) = BitVec.ofNat 32 k.val) :
    wrapF (F := Ideal) s (ix4 h r c 0) = BitVec.ofNat 32 k.val := by
  pointwise [wrapF]
  rw [hk]
  exact wrap_small k

theorem sorted_at (i : IVec S16x16x16x1 32) (s : FVec Ideal S1x16x16x16 .f32) (h r c k : Fin 16) (hk : i (ix4 h r c 0) = BitVec.ofNat 32 k.val) :
    sorted (F := Ideal) i s (ix4 0 h r c) = s (ix4 0 h r k) := by
  pointwise [sorted]
  rw [gather_at s i h r c k hk, andi_fold]
  · rfl
  · show IntOp.andi (IntOp.cmpi .sge (i (ix4 h r c 0)) 0#32) (IntOp.cmpi .sle (i (ix4 h r c 0)) 15#32) = 1#1
    rw [hk]
    exact range_small k

theorem blockMask_at (i : IVec S16x16x16x1 32) (s : IVec S1x16x16x16 1) (h r c k : Fin 16) (hk : i (ix4 h r c 0) = BitVec.ofNat 32 k.val) :
    blockMask (F := Ideal) i s (ix4 0 h r c) = s (ix4 0 h r k) := by
  pointwise [blockMask]
  rw [gather_at s i h r c k hk, andi_fold]
  · rfl
  · show IntOp.andi (IntOp.cmpi .sge (i (ix4 h r c 0)) 0#32) (IntOp.cmpi .sle (i (ix4 h r c 0)) 15#32) = 1#1
    rw [hk]
    exact range_small k

theorem total_at (s : FVec Ideal S1x16x16x16 .f32) (h r : Fin 16) : total (F := Ideal) s (ix4 0 h r 0) = s (ix4 0 h r 15) := by
  pointwise [total]

theorem wrapI_at (s : IVec S1x16x16x16 32) (h r c k : Fin 16) (hk : s (ix4 0 h r c) = BitVec.ofNat 32 k.val) :
    wrapI (F := Ideal) s (ix4 h r c 0) = BitVec.ofNat 32 k.val := wrapF_at s h r c k hk

/-- A left fold that adds from a start is the start and the sum. -/
theorem foldl_add {N : ℕ} (g : Fin N → EReal) (v : EReal) : (List.finRange N).foldl (fun r n => r + g n) v = v + ∑ n, g n := by
  have key : ∀ (l : List (Fin N)) (v : EReal), l.foldl (fun r n => r + g n) v = v + (l.map g).sum := fun l => by
    induction l with
    | nil => intro v; simp
    | cons a l ih => intro v; rw [List.foldl_cons, ih, List.map_cons, List.sum_cons, add_assoc]
  rw [key, Fin.sum_univ_def]

/-- The positions of a window along the last axis. -/
def winEquiv : Fin 16 ≃ (⟨4, ![1, 1, 1, 16]⟩ : Shape).Idx where
  toFun k := ix4 0 0 0 k
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The window's element at position `k`. -/
def winAt (s : FVec Ideal S1x16x16x16 .f32) (h r c k : Fin 16) : EReal := if hk : 15 ≤ c.val + k.val then s (ix4 0 h r ⟨c.val + k.val - 15, by have := c.isLt; have := k.isLt; omega⟩) else 0

theorem sum_win (s : FVec Ideal S1x16x16x16 .f32) (h r c : Fin 16) : (∑ k, winAt s h r c k) = ∑ k : Fin 16, if k.val ≤ c.val then s (ix4 0 h r k) else 0 := by
  have hc := c.isLt
  rw [← Finset.sum_filter]
  rw [← Finset.sum_filter_of_ne (p := fun k : Fin 16 => 15 ≤ c.val + k.val) (fun k _ hk => by
    by_contra hn
    exact hk (dif_neg hn))]
  refine Finset.sum_bij' (fun k _ => (⟨c.val + k.val - 15, by have := k.isLt; omega⟩ : Fin 16)) (fun k hk => (⟨(k.val + 15 - c.val) % 16, Nat.mod_lt _ (by norm_num)⟩ : Fin 16)) ?_ ?_ ?_ ?_ ?_
  · intro k hk
    have := k.isLt
    simp only [Finset.mem_filter, Finset.mem_univ, true_and] at hk ⊢
    omega
  · intro k hk
    simp only [Finset.mem_filter, Finset.mem_univ, true_and] at hk ⊢
    omega
  · intro k hk
    have := k.isLt
    simp only [Finset.mem_filter, Finset.mem_univ, true_and] at hk
    ext
    show (c.val + k.val - 15 + 15 - c.val) % 16 = k.val
    omega
  · intro k hk
    simp only [Finset.mem_filter, Finset.mem_univ, true_and] at hk
    ext
    show c.val + (k.val + 15 - c.val) % 16 - 15 = k.val
    omega
  · intro k hk
    simp only [Finset.mem_filter, Finset.mem_univ, true_and] at hk
    exact dif_pos hk

theorem win_term (s : FVec Ideal S1x16x16x16 .f32) (h r c : Fin 16) (w : (⟨4, ![1, 1, 1, 16]⟩ : Shape).Idx)
    (D : Decidable (∀ a : Fin 4, (![0, 0, 0, 15] : Fin 4 → ℕ) a ≤ ((ix4 (0 : Fin 1) h r c : S1x16x16x16.Idx) a).val * (![1, 1, 1, 1] : Fin 4 → ℕ) a + (w a).val
        ∧ ((ix4 (0 : Fin 1) h r c : S1x16x16x16.Idx) a).val * (![1, 1, 1, 1] : Fin 4 → ℕ) a + (w a).val - (![0, 0, 0, 15] : Fin 4 → ℕ) a < S1x16x16x16.size a)) :
    (if hin : ∀ a : Fin 4, (![0, 0, 0, 15] : Fin 4 → ℕ) a ≤ ((ix4 (0 : Fin 1) h r c : S1x16x16x16.Idx) a).val * (![1, 1, 1, 1] : Fin 4 → ℕ) a + (w a).val
        ∧ ((ix4 (0 : Fin 1) h r c : S1x16x16x16.Idx) a).val * (![1, 1, 1, 1] : Fin 4 → ℕ) a + (w a).val - (![0, 0, 0, 15] : Fin 4 → ℕ) a < S1x16x16x16.size a
      then s fun a => ⟨((ix4 (0 : Fin 1) h r c : S1x16x16x16.Idx) a).val * (![1, 1, 1, 1] : Fin 4 → ℕ) a + (w a).val - (![0, 0, 0, 15] : Fin 4 → ℕ) a, (hin a).2⟩
      else Ideal.ofBits .f32 0x00000000#32) = winAt s h r c (w 3) := by
  have h0 : (w 0).val = 0 := Nat.lt_one_iff.mp (w 0).isLt
  have h1 : (w 1).val = 0 := Nat.lt_one_iff.mp (w 1).isLt
  have h2 : (w 2).val = 0 := Nat.lt_one_iff.mp (w 2).isLt
  have h3 : (w 3).val < 16 := (w 3).isLt
  have hc := c.isLt
  have hh := h.isLt
  have hr := r.isLt
  unfold winAt
  by_cases hk : 15 ≤ c.val + (w 3).val
  · rw [dif_pos hk, dif_pos]
    · refine congrArg s (funext fun a => Fin.ext ?_)
      match a with
      | ⟨0, _⟩ => exact (by omega : 0 * 1 + (w 0).val - 0 = 0)
      | ⟨1, _⟩ => exact (by omega : h.val * 1 + (w 1).val - 0 = h.val)
      | ⟨2, _⟩ => exact (by omega : r.val * 1 + (w 2).val - 0 = r.val)
      | ⟨3, _⟩ => exact (by omega : c.val * 1 + (w 3).val - 15 = c.val + (w 3).val - 15)
    · intro a
      match a with
      | ⟨0, _⟩ => exact (by omega : 0 ≤ 0 * 1 + (w 0).val ∧ 0 * 1 + (w 0).val - 0 < 1)
      | ⟨1, _⟩ => exact (by omega : 0 ≤ h.val * 1 + (w 1).val ∧ h.val * 1 + (w 1).val - 0 < 16)
      | ⟨2, _⟩ => exact (by omega : 0 ≤ r.val * 1 + (w 2).val ∧ r.val * 1 + (w 2).val - 0 < 16)
      | ⟨3, _⟩ => exact (by omega : 15 ≤ c.val * 1 + (w 3).val ∧ c.val * 1 + (w 3).val - 15 < 16)
  · rw [dif_neg hk, dif_neg]
    · exact Consts.c0
    · intro hin
      have h' : 15 ≤ c.val * 1 + (w 3).val := (hin 3).1
      omega

theorem cum_at (s : FVec Ideal S1x16x16x16 .f32) (h r c : Fin 16) :
    cum (F := Ideal) s (ix4 0 h r c) = ∑ k : Fin 16, if k.val ≤ c.val then s (ix4 0 h r k) else 0 := by
  rw [← sum_win]
  unfold cum Host.reduceWindowAdd
  show Ideal.hostReduceWindowAdd _ _ _ _ _ _ _ _ = _
  unfold Ideal.hostReduceWindowAdd Host.reduceWindow
  refine (foldl_add _ _).trans ?_
  have hz : (Ideal.ofBits .f32 0x00000000#32) = 0 := Consts.c0
  refine (congrArg₂ (· + ·) (show _ = (0 : EReal) from hz) ?_).trans (zero_add _)
  refine (Finset.sum_congr rfl fun n _ => ?_).trans ((Equiv.sum_comp (Shape.rowMajor ⟨4, ![1, 1, 1, 16]⟩).symm (fun w : (⟨4, ![1, 1, 1, 16]⟩ : Shape).Idx => winAt s h r c (w 3))).trans (Equiv.sum_comp winEquiv _).symm)
  exact win_term s h r c _ _

/-- The fold that finds the first of the largest words: over zeros and ones, the first one, where there is one. -/
theorem argmax_fold (w : Fin 16 → BitVec 32) (f : Fin 16) (hw : ∀ k, w k = if f ≤ k then 1#32 else 0#32) :
    ((List.finRange 16).map fun k => (w k, BitVec.ofNat 32 k.val)).foldl reducer_argmax_i32_i32 (2147483648#32, 0#32) = (1#32, BitVec.ofNat 32 f.val) := by
  obtain rfl : w = fun k => if f ≤ k then 1#32 else 0#32 := funext hw
  clear hw
  revert f
  decide

/-- The entries of one row, in row-major order, are its columns in order. -/
theorem row_list (h r : Fin 16) :
    (List.finRange S1x16x16x16.numel).filter (fun n => reducesTo_S1x16x16x16_S1x16x16_d3.drop (S1x16x16x16.rowMajor.symm n) = (ix3 0 h r : S1x16x16.Idx))
      = (List.finRange 16).map fun k => S1x16x16x16.rowMajor (ix4 0 h r k) := by
  have hval : ∀ k : Fin 16, (S1x16x16x16.rowMajor (ix4 0 h r k)).val = (h.val * 16 + r.val) * 16 + k.val := fun k => by
    rw [Shape.rowMajor_val_four]
    show ((0 * 16 + h.val) * 16 + r.val) * 16 + k.val = _
    omega
  have hp1 : ((List.finRange S1x16x16x16.numel).filter (fun n => reducesTo_S1x16x16x16_S1x16x16_d3.drop (S1x16x16x16.rowMajor.symm n) = (ix3 0 h r : S1x16x16.Idx))).Pairwise (· < ·) :=
    (List.pairwise_lt_finRange _).filter _
  have hp2 : ((List.finRange 16).map fun k => S1x16x16x16.rowMajor (ix4 0 h r k)).Pairwise (· < ·) := by
    rw [List.pairwise_map]
    refine (List.pairwise_lt_finRange 16).imp fun {a b} hab => ?_
    rw [Fin.lt_def, hval, hval]
    have : a.val < b.val := hab
    omega
  refine List.Perm.eq_of_pairwise' hp1 hp2 ((List.perm_ext_iff_of_nodup (hp1.imp fun h => h.ne) (hp2.imp fun h => h.ne)).mpr fun n => ?_)
  simp only [List.mem_filter, List.mem_finRange, true_and, List.mem_map, decide_eq_true_eq]
  constructor
  · intro hd
    obtain ⟨i, rfl⟩ := S1x16x16x16.rowMajor.surjective n
    rw [Equiv.symm_apply_apply] at hd
    refine ⟨i 3, congrArg _ (funext fun a => ?_)⟩
    match a with
    | ⟨0, _⟩ => exact Subsingleton.elim (α := Fin 1) _ _
    | ⟨1, _⟩ => exact (congrFun hd 1).symm
    | ⟨2, _⟩ => exact (congrFun hd 2).symm
    | ⟨3, _⟩ => rfl
  · rintro ⟨k, rfl⟩
    rw [Equiv.symm_apply_apply]
    funext a
    match a with
    | ⟨0, _⟩ => rfl
    | ⟨1, _⟩ => rfl
    | ⟨2, _⟩ => rfl

theorem first_at (t : FVec Ideal S1x16x16x1 .f32) (s : FVec Ideal S1x16x16x16 .f32) (h r f : Fin 16)
    (hf : ∀ k : Fin 16, Ideal.ofBits .f32 0x3F733333#32 * t (ix4 0 h r 0) ≤ s (ix4 0 h r k) ↔ f ≤ k) :
    first (F := Ideal) t s (ix3 0 h r) = BitVec.ofNat 32 f.val := by
  unfold first
  rw [Host.reduce2_eq_foldl_fiber]
  unfold Host.argReduceFiber
  rw [row_list, List.map_map]
  refine (congrArg Prod.snd ?_).trans (congrArg Prod.snd (argmax_fold (fun k => if f ≤ k then 1#32 else 0#32) f fun _ => rfl))
  refine congrArg (List.foldl reducer_argmax_i32_i32 (2147483648#32, 0#32)) (List.map_congr_left fun k _ => ?_)
  show ((extui 32 _ natLt_1_32 : IVec S1x16x16x16 32) (S1x16x16x16.rowMajor.symm (S1x16x16x16.rowMajor (ix4 0 h r k))), iotaInDim S1x16x16x16 32 3 (S1x16x16x16.rowMajor.symm (S1x16x16x16.rowMajor (ix4 0 h r k)))) = _
  rw [Equiv.symm_apply_apply]
  refine Prod.ext ?_ rfl
  pointwise []
  simp only [hf]
  by_cases hk : f ≤ k
  · simp [hk]
  · simp [hk]

theorem count_at (s : FVec Ideal S1x16x16x16 .f32) (t : FVec Ideal S1x16x16x1 .f32) (u : IVec S1x16x16 32) (h r : Fin 16)
    (hl : Ideal.ofBits .f32 0x3F733333#32 * t (ix4 0 h r 0) ≤ s (ix4 0 h r 15)) :
    Stages.count (F := Ideal) s t u (ix3 0 h r) = IntOp.minsi 11#32 (IntOp.maxsi 1#32 (u (ix3 0 h r))) := by
  pointwise [Stages.count]
  rw [if_neg (not_lt.mpr hl)]

theorem kept_at (u : IVec S1x16x16 32) (h r c : Fin 16) : kept (F := Ideal) u (ix4 0 h r c) = IntOp.cmpi .slt (BitVec.ofNat 32 c.val) (u (ix3 0 h r)) := by
  pointwise [kept]

end Cert.ReferenceIdeal.Read
-- ==== Proof.RefReadAttn.lean ====
/- The reference's attention stages read at an index, over the extended reals. -/
module

public import proofs.«01_k».proof.Proof.RefRead
public import proofs.«01_k».proof.Proof.Spec
public import Idealize.ShloMosaic.Lib.Pointwise

@[expose] public section

noncomputable section

namespace Cert.ReferenceIdeal.Read

open Cert.ReferenceIdeal Cert.ReferenceIdeal.Gen Idealize.ShloMosaic Stages

theorem fullMask_at (u : IVec S1x16x16x16 1) (h : Fin 16) (a b : Fin 2048) : fullMask (F := Ideal) u (ix4 0 h a b) = u (ix4 0 h (Spec.blkOf a) (Spec.blkOf b)) := by
  pointwise [fullMask]
  rfl

theorem masked_at (q k : FVec Ideal S1x16x2048x128 .f32) (u : IVec S1x16x2048x2048 1) (h : Fin 16) (a b : Fin 2048) :
    masked (F := Ideal) q k u (ix4 0 h a b) = if u (ix4 0 h a b) = 1#1 then Spec.score (argOf q) (argOf k) h a b else ⊥ := by
  pointwise [masked]
  rw [Consts.cbot]
  rfl

/-- The largest entry of a row. -/
theorem rowmax {m n : ℕ} (x : FVec Ideal ⟨4, ![1, 16, m, n]⟩ .f32) (v : FVec Ideal S_ .f32) (hv : ∀ i, v i = ⊥) (hr : (⟨4, ![1, 16, m, n]⟩ : Shape).ReducesTo [3] ⟨3, ![1, 16, m]⟩)
    (hu : 0 < S_.numel) (h : Fin 16) (a : Fin m) :
    Host.reduce FloatOps.maximumf x v hr hu (ix3 0 h a) = Finset.univ.sup fun b => x (ix4 0 h a b) := by
  pointwise []
  rw [hv, Spec.fold_sup]

/-- The exponential less a row's number. -/
theorem exp_row (s : FVec Ideal S1x16x2048x2048 .f32) (R : FVec Ideal S1x16x2048 .f32) (h : Fin 16) (a b : Fin 2048) :
    (Host.exp (subf s ((broadcastInDim S1x16x2048x2048 ![0, 1, 2, 3] bcast_S1x16x2048x1_S1x16x2048x2048_0_1_2_3) ((broadcastInDim S1x16x2048x1 ![0, 1, 2] bcast_S1x16x2048_S1x16x2048x1_0_1_2) (maximumf ((broadcastInDim S1x16x2048 ![] bcast_S_S1x16x2048) (constant S_ .f32 0xFF800000#32)) R)))) : FVec Ideal S1x16x2048x2048 .f32) (ix4 0 h a b)
      = Ideal.exp (s (ix4 0 h a b) - max (Ideal.ofBits .f32 0xFF800000#32) (R (ix3 0 h a))) := by
  pointwise []

theorem weights_at (s : FVec Ideal S1x16x2048x2048 .f32) (h : Fin 16) (a b : Fin 2048) :
    weights (F := Ideal) s (ix4 0 h a b) = Ideal.exp (s (ix4 0 h a b) - Finset.univ.sup fun b' : Fin 2048 => s (ix4 0 h a b')) := by
  unfold weights
  rw [exp_row, rowmax s (constant S_ .f32 0xFF800000#32) (fun _ => Consts.cbot), Consts.cbot, max_eq_right bot_le]

theorem probs_at (s : FVec Ideal S1x16x2048x2048 .f32) (h : Fin 16) (a b : Fin 2048) :
    probs (F := Ideal) s (ix4 0 h a b) = Ideal.div (s (ix4 0 h a b)) (∑ b' : Fin 2048, s (ix4 0 h a b')) := by
  pointwise [probs]

theorem attended_at (p : FVec Ideal S1x16x2048x2048 .f32) (v : FVec Ideal S1x16x2048x128 .f32) (h : Fin 16) (a : Fin 2048) (b : Fin 128) :
    attended (F := Ideal) p v (ix4 0 h a b) = ∑ x : Fin 2048, p (ix4 0 h a x) * v (ix4 0 h x b) := by
  pointwise [attended]

/-- A column's sum over the rows is a sum over the blocks of the sums over each block's rows. -/
theorem sum_blk (f : Fin 2048 → EReal) : (∑ x, f x) = ∑ j : Fin 16, ∑ t : Fin 128, f (Spec.blk j t) :=
  Fin.sum_univ_tiles 16 128 (by norm_num) f

/-- The same for the largest. -/
theorem sup_blk (f : Fin 2048 → EReal) : (Finset.univ.sup f) = Finset.univ.sup fun j : Fin 16 => Finset.univ.sup fun t : Fin 128 => f (Spec.blk j t) := by
  refine le_antisymm (Finset.sup_le fun x _ => ?_) (Finset.sup_le fun j _ => Finset.sup_le fun t _ => Finset.le_sup (Finset.mem_univ _))
  have hx : x = Spec.blk (Spec.blkOf x) ⟨x.val % 128, Nat.mod_lt _ (by norm_num)⟩ := Fin.ext (by
    show x.val = x.val / 128 * 128 + x.val % 128
    omega)
  rw [hx]
  exact (Finset.le_sup (f := fun t : Fin 128 => f (Spec.blk (Spec.blkOf x) t)) (Finset.mem_univ _)).trans
    (Finset.le_sup (f := fun j : Fin 16 => Finset.univ.sup fun t : Fin 128 => f (Spec.blk j t)) (Finset.mem_univ (Spec.blkOf x)))

theorem blkOf_blk (j : Fin 16) (t : Fin 128) : Spec.blkOf (Spec.blk j t) = j := Fin.ext (by
  show (j.val * 128 + t.val) / 128 = j.val
  have := t.isLt
  omega)

end Cert.ReferenceIdeal.Read
-- ==== Proof.RefValue.lean ====
/- The reference's result is the block-sparse attention. -/
module

public import proofs.«01_k».proof.Proof.RefReadAttn
public import Idealize.ShloMosaic.Lib.Pointwise

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo Stages

/-- The least place whose running sum reaches a number the last one reaches. -/
theorem exists_first (C : Fin 16 → EReal) (T : EReal) (h : T ≤ C 15) : ∃ f, T ≤ C f ∧ ∀ k, k < f → C k < T := by
  obtain ⟨f, hf, hm⟩ := WellFounded.has_min (wellFounded_lt (α := Fin 16)) {k | T ≤ C k} ⟨15, h⟩
  exact ⟨f, hf, fun k hk => lt_of_not_ge fun h' => hm k h' hk⟩

theorem clip_small (f : Fin 16) : IntOp.minsi 11#32 (IntOp.maxsi 1#32 (BitVec.ofNat 32 f.val)) = BitVec.ofNat 32 (min 11 (max 1 f.val)) := by
  revert f
  decide

theorem slt_small (a b : ℕ) (ha : a < 16) (hb : b < 16) : IntOp.cmpi .slt (BitVec.ofNat 32 a) (BitVec.ofNat 32 b) = 1#1 ↔ a < b := by
  have h : ∀ a b : Fin 16, IntOp.cmpi .slt (BitVec.ofNat 32 a.val) (BitVec.ofNat 32 b.val) = 1#1 ↔ a.val < b.val := by decide
  exact h ⟨a, ha⟩ ⟨b, hb⟩

/-- The number of blocks kept, from the running sums. -/
theorem count_of_cum (C : FVec Ideal S1x16x16x16 .f32) (h r : Fin 16) (p : Fin 16 → EReal) (hp : ∀ c, 0 ≤ p c) (hC : ∀ c, C (ix4 0 h r c) = MaskMath.cum p c) :
    Stages.count (F := Ideal) C (total (F := Ideal) C) (first (F := Ideal) (total (F := Ideal) C) C) (ix3 0 h r) = BitVec.ofNat 32 (Spec.nkeep p) := by
  obtain ⟨f, hf, hm⟩ := exists_first (MaskMath.cum p) (Ideal.ofBits .f32 0x3F733333#32 * MaskMath.cum p 15) (Spec.thr_le p hp)
  have hmono := MaskMath.cum_mono p hp
  rw [count_at C _ _ h r (by rw [total_at, hC]; exact Spec.thr_le p hp),
    first_at _ C h r f (fun k => by
      rw [total_at, hC, hC]
      exact ⟨fun hk => le_of_not_gt fun hlt => absurd hk (not_le_of_gt (hm k hlt)), fun hk => hf.trans (hmono hk)⟩), clip_small]
  unfold Spec.nkeep
  rw [MaskMath.count_first _ hmono _ f hf hm]

theorem nkeep_lt (p : Fin 16 → EReal) : Spec.nkeep p < 16 := by
  unfold Spec.nkeep
  omega

/-- The mask, from the probabilities. -/
theorem mask_of_probs (P : FVec Ideal S1x16x16x16 .f32) (h r c : Fin 16) (p : Fin 16 → EReal) (hp : ∀ c, 0 ≤ p c) (hP : ∀ c, P (ix4 0 h r c) = p c)
    (C : FVec Ideal S1x16x16x16 .f32) (hCd : C = cum (F := Ideal) (sorted (F := Ideal) (wrapF (F := Ideal) (order (F := Ideal) P)) P)) :
    blockMask (F := Ideal) (wrapI (F := Ideal) (inverse (F := Ideal) (order (F := Ideal) P)))
      (kept (F := Ideal) (Stages.count (F := Ideal) C (total (F := Ideal) C) (first (F := Ideal) (total (F := Ideal) C) C))) (ix4 0 h r c) = 1#1
      ↔ MaskMath.rk p c < Spec.nkeep p := by
  have hP' : (fun c => P (ix4 0 h r c)) = p := funext hP
  have hord : ∀ c, order (F := Ideal) P (ix4 0 h r c) = BitVec.ofNat 32 (MaskMath.ord p c).val := fun c => by rw [order_at, hP']
  have hC : ∀ c, C (ix4 0 h r c) = MaskMath.cum p c := fun c => by
    rw [hCd, cum_at]
    unfold MaskMath.cum
    refine Finset.sum_congr rfl fun k _ => ?_
    rw [sorted_at _ _ h r k _ (wrapF_at _ h r k _ (hord k)), hP]
  rw [blockMask_at _ _ h r c _ (wrapI_at _ h r c _ (inverse_at _ h r c (MaskMath.ord p) hord)), kept_at, count_of_cum C h r p hp hC, MaskMath.back_ord,
    slt_small _ _ (MaskMath.rk_lt p c) (nkeep_lt p)]

variable (V : Valuation τ sig (Elt Ideal))

abbrev Q : FVec Ideal S1x16x2048x128 .f32 := V (Proc.devRef .tc main_arg0)
abbrev K : FVec Ideal S1x16x2048x128 .f32 := V (Proc.devRef .tc main_arg1)
abbrev X : FVec Ideal S1x16x2048x128 .f32 := V (Proc.devRef .tc main_arg2)

theorem probs_eq (h r c : Fin 16) : r_poolProbs (F := Ideal) V (ix4 0 h r c) = Spec.bprob (argOf (Q V)) (argOf (K V)) h r c := by
  unfold r_poolProbs r_poolExp r_poolScores
  rw [poolProbs_at]
  simp only [poolExp_at, poolScores_at]
  rfl

theorem mask_eq (hq : Spec.IsReal (argOf (Q V))) (hk : Spec.IsReal (argOf (K V))) (h r c : Fin 16) :
    r_blockMask V (ix4 0 h r c) = 1#1 ↔ Spec.keep (argOf (Q V)) (argOf (K V)) h r c :=
  mask_of_probs (r_poolProbs V) h r c _ (Spec.bprob_nonneg hq hk h r) (probs_eq V h r) (r_cum V) rfl

theorem masked_eq (hq : Spec.IsReal (argOf (Q V))) (hk : Spec.IsReal (argOf (K V))) (h : Fin 16) (a : Fin 2048) (j : Fin 16) (t : Fin 128) :
    r_masked V (ix4 0 h a (Spec.blk j t))
      = AttnMath.drop (fun j t => Spec.score (argOf (Q V)) (argOf (K V)) h a (Spec.blk j t)) (Spec.keep (argOf (Q V)) (argOf (K V)) h (Spec.blkOf a)) j t := by
  unfold r_masked r_fullMask
  rw [masked_at, fullMask_at, blkOf_blk]
  unfold AttnMath.drop
  exact if_congr (mask_eq V hq hk h (Spec.blkOf a) j) rfl rfl

/-- The reference's result. -/
theorem attended_eq (hq : Spec.IsReal (argOf (Q V))) (hk : Spec.IsReal (argOf (K V))) (h : Fin 16) (a : Fin 2048) (b : Fin 128) :
    r_attended V (ix4 0 h a b) = Spec.out (argOf (Q V)) (argOf (K V)) (argOf (X V)) h a b := by
  have hs : (Finset.univ.sup fun b' : Fin 2048 => r_masked V (ix4 0 h a b'))
      = AttnMath.topD (fun j t => Spec.score (argOf (Q V)) (argOf (K V)) h a (Spec.blk j t)) (Spec.keep (argOf (Q V)) (argOf (K V)) h (Spec.blkOf a)) := by
    rw [sup_blk]
    simp only [masked_eq V hq hk]
    rfl
  have hw : ∀ j t, r_weights V (ix4 0 h a (Spec.blk j t)) = Ideal.exp (AttnMath.drop (fun j t => Spec.score (argOf (Q V)) (argOf (K V)) h a (Spec.blk j t)) (Spec.keep (argOf (Q V)) (argOf (K V)) h (Spec.blkOf a)) j t
      - AttnMath.topD (fun j t => Spec.score (argOf (Q V)) (argOf (K V)) h a (Spec.blk j t)) (Spec.keep (argOf (Q V)) (argOf (K V)) h (Spec.blkOf a))) := fun j t => by
    unfold r_weights
    rw [weights_at, hs, masked_eq V hq hk]
  unfold r_attended r_probs
  rw [attended_at, sum_blk]
  simp only [probs_at]
  rw [sum_blk]
  simp only [hw]
  rfl

end Cert.ReferenceIdeal.Read
-- ==== Proof.AttnForm.lean ====
/-
  The attention body's one store, written as a tiled attention over sixteen key blocks: each block's scores, its row maximum,
  its exponentials and their row sums; the kept blocks' common maximum; the factor each kept block's exponentials are scaled by;
  and the weighted values over the weighted row sums.
-/
module

public import proofs.«01_k».proof.Proof.IdealAttnBody
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

/-- The scores of a query block against a key block. -/
def aScore (q k : Vec F S1x128x128 .bf16) : FVec F S128x128 .f32 :=
  matmul dot_S128x128_S128x128_S128x128_1_1_0_0_n_n none (shapeCast S128x128 q shapeCasts_S1x128x128_S128x128) (shapeCast S128x128 k shapeCasts_S1x128x128_S128x128) (constant S128x128 .f32 0x00000000#32)
/-- Each row's largest score in the block. -/
def aMax (s : FVec F S128x128 .f32) : FVec F S128x1 .f32 :=
  shapeCast S128x1 (multiReduction .maximumf [1] S128 s 0xFF800000#32 reduces_S128x128_S128 (.inl rfl) rfl) shapeCasts_S128_S128x1
/-- The exponentials of the scores below that maximum. -/
def aExp (s : FVec F S128x128 .f32) : FVec F S128x128 .f32 :=
  exp (subf s (broadcastTo S128x128 (aMax s) broadcasts_S128x1_S128x128))
/-- Their row sums. -/
def aSum (s : FVec F S128x128 .f32) : FVec F S128x1 .f32 :=
  shapeCast S128x1 (multiReduction .add [1] S128 (aExp s) 0x00000000#32 reduces_S128x128_S128 (.inl rfl) rfl) shapeCasts_S128_S128x1
/-- A block's row maxima where its mask word keeps it, the mask constant elsewhere. -/
def aKept (w : BitVec 1) (m : FVec F S128x1 .f32) : FVec F S128x1 .f32 :=
  Scalar.select w m (broadcast S128x1 (Named.named κ "mask" 0xF149F2CA#32))
/-- The kept blocks' row maxima, over two, four, eight and all sixteen blocks. -/
def aTop (w : Fin 16 → BitVec 1) (m : Fin 16 → FVec F S128x1 .f32) : FVec F S128x1 .f32 :=
  maximumf
    (maximumf (maximumf (maximumf (aKept (w 0) (m 0)) (aKept (w 1) (m 1))) (maximumf (aKept (w 2) (m 2)) (aKept (w 3) (m 3))))
      (maximumf (maximumf (aKept (w 4) (m 4)) (aKept (w 5) (m 5))) (maximumf (aKept (w 6) (m 6)) (aKept (w 7) (m 7)))))
    (maximumf (maximumf (maximumf (aKept (w 8) (m 8)) (aKept (w 9) (m 9))) (maximumf (aKept (w 10) (m 10)) (aKept (w 11) (m 11))))
      (maximumf (maximumf (aKept (w 12) (m 12)) (aKept (w 13) (m 13))) (maximumf (aKept (w 14) (m 14)) (aKept (w 15) (m 15)))))
/-- The factor that carries a block's exponentials to the common maximum: zero for a block not kept. -/
def aBeta (w : BitVec 1) (m top : FVec F S128x1 .f32) : FVec F S128x1 .f32 :=
  Scalar.select w (exp (subf m top)) (broadcast S128x1 (Scalar.ofBits .f32 0x00000000#32))
/-- The weighted row sums, added from the first block on. -/
def aDen (b l : Fin 16 → FVec F S128x1 .f32) : FVec F S128x1 .f32 :=
  addf (addf (addf (addf (addf (addf (addf (addf (addf (addf (addf (addf (addf (addf (addf (mulf (b 0) (l 0)) (mulf (b 1) (l 1))) (mulf (b 2) (l 2))) (mulf (b 3) (l 3)))
    (mulf (b 4) (l 4))) (mulf (b 5) (l 5))) (mulf (b 6) (l 6))) (mulf (b 7) (l 7))) (mulf (b 8) (l 8))) (mulf (b 9) (l 9))) (mulf (b 10) (l 10))) (mulf (b 11) (l 11)))
    (mulf (b 12) (l 12))) (mulf (b 13) (l 13))) (mulf (b 14) (l 14))) (mulf (b 15) (l 15))
/-- A block's weighted exponentials against its values. -/
def aOut (e : FVec F S128x128 .f32) (b : FVec F S128x1 .f32) (v : Vec F S1x128x128 .bf16) : FVec F S128x128 .f32 :=
  matmul dot_S128x128_S128x128_S128x128_1_0_0_1_n_n none (truncf .bf16 (mulf e (broadcastTo S128x128 b broadcasts_S128x1_S128x128)) bitsLt_bf16_f32)
    (shapeCast S128x128 v shapeCasts_S1x128x128_S128x128) (constant S128x128 .f32 0x00000000#32)
/-- The blocks' outputs added in pairs. -/
def aNum (o : Fin 16 → FVec F S128x128 .f32) : FVec F S128x128 .f32 :=
  addf
    (addf (addf (addf (o 0) (o 1)) (addf (o 2) (o 3))) (addf (addf (o 4) (o 5)) (addf (o 6) (o 7))))
    (addf (addf (addf (o 8) (o 9)) (addf (o 10) (o 11))) (addf (addf (o 12) (o 13)) (addf (o 14) (o 15))))
/-- The block of output: the sum over the blocks divided by the weighted row sums. -/
def aForm (q : Vec F S1x128x128 .bf16) (k v : Fin 16 → Vec F S1x128x128 .bf16) (w : Fin 16 → BitVec 1) : Vec F S1x128x128 .f32 :=
  shapeCast S1x128x128
    (divf (aNum fun j => aOut (aExp (aScore q (k j))) (aBeta (w j) (aMax (aScore q (k j))) (aTop w fun j => aMax (aScore q (k j)))) (v j))
      (broadcastTo S128x128
        (aDen (fun j => aBeta (w j) (aMax (aScore q (k j))) (aTop w fun j => aMax (aScore q (k j)))) fun j => aSum (aScore q (k j)))
        broadcasts_S128x1_S128x128))
    shapeCasts_S128x128_S1x128x128

/-- Block `j` of sixteen lies inside the head. -/
theorem inb_block (j : Fin 16) : ∀ a, (![0, 128 * j.val, 0] : Fin S1x2048x128.rank → ℕ) a + S1x128x128.size a ≤ S1x2048x128.size a := by
  have hj := j.2
  intro a
  fin_cases a
  · exact Nat.le_refl 1
  · show 128 * j.val + 128 ≤ 2048
    omega
  · exact Nat.le_refl 128
/-- The rectangle of block `j`. -/
def rBlock (j : Fin 16) : Rect S1x2048x128 := Rect.unit (s := S1x2048x128) ![0, 128 * j.val, 0] S1x128x128.size (inb_block j)
/-- The whole of a query block. -/
def rWhole : Rect S1x128x128 := Rect.unit (s := S1x128x128) ![0, 0, 0] S1x128x128.size inb_S1x128x128_S1x128x128_0_0_0

/-- Whether mask word `j` of the point keeps its block. -/
def aWord (c : Dev nD) (i : grid1.Coords) (xt : TbBuf (F := F) c tbM) (j : Fin 16) : BitVec 1 :=
  Scalar.cmpi .sgt (View.readAt (Elt F) tbM.view (Rect.unit (s := S4096) (k1_off1 i (BitVec.ofNat 32 j.val)) S1.size (k1_off1_inb i j)).toLoadRect xt (Shape.Idx.first (by show 0 < S1.numel; rw [numel1_S1]; exact Nat.one_pos))) 0#32

set_option maxHeartbeats 4000000 in
/-- What the body stores is the tiled attention of the blocks it loads. -/
theorem attnRun_eq (c : Dev nD) (i : grid1.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .f32) (harg6 : arg6.IsWhole)
    (x0 : Vec F S1x128x128 .bf16) (x1 : Vec F S1x2048x128 .bf16) (x2 : Vec F S1x2048x128 .bf16) (xt : TbBuf (F := F) c tbM) :
    (attnRun c i arg3 harg3 arg4 harg4 arg5 harg5 arg6 harg6 x0 x1 x2 xt).1
      = [⟨rWhole, aForm (View.readAt (Elt F) arg3.view rWhole.toLoadRect (harg3.unread x0)) (fun j => View.readAt (Elt F) arg4.view (rBlock j).toLoadRect (harg4.unread x1))
          (fun j => View.readAt (Elt F) arg5.view (rBlock j).toLoadRect (harg5.unread x2)) (aWord c i xt)⟩] := rfl

end Cert.KernelIdeal.Run
-- ==== Proof.MaskForm.lean ====
/-
  The mask body's one store, written out: the blocks' ranks by decreasing probability, ties in column order; the running
  mass over the ranks; how many of the running masses stay short of the threshold; and the blocks whose rank is below that
  count, the count held between one and eleven.
-/
module

public import proofs.«01_k».proof.Proof.IdealMaskBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

/-- Sixteen rows of `n` columns. -/
abbrev rows (n : ℕ) : Shape := ⟨2, ![16, n]⟩

/-- A flag as a number. -/
def mOne {s : Shape} (b : IVec s 1) : FVec F s .f32 := sitofp .f32 (extui 32 b natLt_1_32)
/-- The row sums of `n` columns. -/
def mSum {n : ℕ} (x : FVec F (rows n) .f32) (hr : (rows n).Reduces [1] S16) : FVec F S16x1 .f32 :=
  shapeCast S16x1 (multiReduction .add [1] S16 x 0x00000000#32 hr (.inl rfl) rfl) shapeCasts_S16_S16x1
/-- A column of its own. -/
def mCol (P : FVec F S16x16 .f32) (n : ℕ) (hs : S16x16.Slices ![0, n] S16x1) : FVec F S16x1 .f32 :=
  extractStridedSlice S16x1 ![0, n] P hs
/-- How many entries of a row lie above the row's entry in column `n`. -/
def mAbove (P : FVec F S16x16 .f32) (n : ℕ) (hs : S16x16.Slices ![0, n] S16x1) : FVec F S16x1 .f32 :=
  mSum (n := 16) (mOne (cmpf .ogt P (broadcastTo S16x16 (mCol P n hs) broadcasts_S16x1_S16x16))) reduces_S16x16_S16
/-- How many entries of a row stand before its entry in column `n`: those above it, and its equals in the columns before. -/
def mPlace (P : FVec F S16x16 .f32) (n : ℕ) (hs : S16x16.Slices ![0, n] S16x1) (hl : S16x16.Slices ![0, 0] (rows n))
    (hb : S16x1.Broadcasts (rows n)) (hr : (rows n).Reduces [1] S16) : FVec F S16x1 .f32 :=
  addf (mAbove P n hs) (mSum (mOne (cmpf .oeq (extractStridedSlice (rows n) ![0, 0] P hl) (broadcastTo (rows n) (mCol P n hs) hb))) hr)
/-- A column of numbers added into column `n`. -/
def mPut (n : ℕ) (x : FVec F S16x1 .f32) (acc : FVec F S16x16 .f32) : FVec F S16x16 .f32 :=
  addf acc (mulf (broadcastTo S16x16 x broadcasts_S16x1_S16x16) (mOne (cmpi .eq (iota .tc S16x16 32 [1] iota_S16x16_d1_w32) (broadcast S16x16 (BitVec.ofNat 32 n)))))
/-- The ranks of the columns, row by row. -/
def mRank (P : FVec F S16x16 .f32) : FVec F S16x16 .f32 :=
  mPut 15 (mPlace P 15 slices_S16x16_o0_15_S16x1 slices_S16x16_o0_0_S16x15 broadcasts_S16x1_S16x15 reduces_S16x15_S16)
    (mPut 14 (mPlace P 14 slices_S16x16_o0_14_S16x1 slices_S16x16_o0_0_S16x14 broadcasts_S16x1_S16x14 reduces_S16x14_S16)
    (mPut 13 (mPlace P 13 slices_S16x16_o0_13_S16x1 slices_S16x16_o0_0_S16x13 broadcasts_S16x1_S16x13 reduces_S16x13_S16)
    (mPut 12 (mPlace P 12 slices_S16x16_o0_12_S16x1 slices_S16x16_o0_0_S16x12 broadcasts_S16x1_S16x12 reduces_S16x12_S16)
    (mPut 11 (mPlace P 11 slices_S16x16_o0_11_S16x1 slices_S16x16_o0_0_S16x11 broadcasts_S16x1_S16x11 reduces_S16x11_S16)
    (mPut 10 (mPlace P 10 slices_S16x16_o0_10_S16x1 slices_S16x16_o0_0_S16x10 broadcasts_S16x1_S16x10 reduces_S16x10_S16)
    (mPut 9 (mPlace P 9 slices_S16x16_o0_9_S16x1 slices_S16x16_o0_0_S16x9 broadcasts_S16x1_S16x9 reduces_S16x9_S16)
    (mPut 8 (mPlace P 8 slices_S16x16_o0_8_S16x1 slices_S16x16_o0_0_S16x8 broadcasts_S16x1_S16x8 reduces_S16x8_S16)
    (mPut 7 (mPlace P 7 slices_S16x16_o0_7_S16x1 slices_S16x16_o0_0_S16x7 broadcasts_S16x1_S16x7 reduces_S16x7_S16)
    (mPut 6 (mPlace P 6 slices_S16x16_o0_6_S16x1 slices_S16x16_o0_0_S16x6 broadcasts_S16x1_S16x6 reduces_S16x6_S16)
    (mPut 5 (mPlace P 5 slices_S16x16_o0_5_S16x1 slices_S16x16_o0_0_S16x5 broadcasts_S16x1_S16x5 reduces_S16x5_S16)
    (mPut 4 (mPlace P 4 slices_S16x16_o0_4_S16x1 slices_S16x16_o0_0_S16x4 broadcasts_S16x1_S16x4 reduces_S16x4_S16)
    (mPut 3 (mPlace P 3 slices_S16x16_o0_3_S16x1 slices_S16x16_o0_0_S16x3 broadcasts_S16x1_S16x3 reduces_S16x3_S16)
    (mPut 2 (mPlace P 2 slices_S16x16_o0_2_S16x1 slices_S16x16_o0_0_S16x2 broadcasts_S16x1_S16x2 reduces_S16x2_S16)
    (mPut 1 (addf (mAbove P 1 slices_S16x16_o0_1_S16x1) (mSum (n := 1) (mOne (cmpf .oeq (mCol P 0 slices_S16x16_o0_0_S16x1) (mCol P 1 slices_S16x16_o0_1_S16x1))) reduces_S16x1_S16))
    (mPut 0 (addf (mAbove P 0 slices_S16x16_o0_0_S16x1) (broadcast S16x1 (Scalar.ofBits .f32 0x00000000#32)))
    (broadcast S16x16 (Scalar.ofBits .f32 0x00000000#32)))))))))))))))))
/-- The mass of the entries of rank at most the number `b` spells. -/
def mUpTo (P R : FVec F S16x16 .f32) (b : BitVec 32) : FVec F S16x1 .f32 :=
  mSum (n := 16) (mulf P (mOne (cmpf .ole R (broadcast S16x16 (Scalar.ofBits .f32 b))))) reduces_S16x16_S16
/-- The running mass over the ranks. -/
def mCum (P R : FVec F S16x16 .f32) : FVec F S16x16 .f32 :=
  mPut 15 (mUpTo P R 0x41700000#32)
    (mPut 14 (mUpTo P R 0x41600000#32)
    (mPut 13 (mUpTo P R 0x41500000#32)
    (mPut 12 (mUpTo P R 0x41400000#32)
    (mPut 11 (mUpTo P R 0x41300000#32)
    (mPut 10 (mUpTo P R 0x41200000#32)
    (mPut 9 (mUpTo P R 0x41100000#32)
    (mPut 8 (mUpTo P R 0x41000000#32)
    (mPut 7 (mUpTo P R 0x40E00000#32)
    (mPut 6 (mUpTo P R 0x40C00000#32)
    (mPut 5 (mUpTo P R 0x40A00000#32)
    (mPut 4 (mUpTo P R 0x40800000#32)
    (mPut 3 (mUpTo P R 0x40400000#32)
    (mPut 2 (mUpTo P R 0x40000000#32)
    (mPut 1 (mUpTo P R 0x3F800000#32)
    (mPut 0 (mUpTo P R 0x00000000#32)
    (broadcast S16x16 (Scalar.ofBits .f32 0x00000000#32)))))))))))))))))
/-- How many of the running masses stay short of the threshold. -/
def mCount (C : FVec F S16x16 .f32) : FVec F S16x1 .f32 :=
  mSum (n := 16) (mOne (cmpf .olt C (broadcastTo S16x16 (mulf (broadcast S16x1 (Scalar.ofBits .f32 0x3F733333#32)) (mCol C 15 slices_S16x16_o0_15_S16x1)) broadcasts_S16x1_S16x16))) reduces_S16x16_S16
/-- The mask of one head. -/
def mForm (P : FVec F S16x16 .f32) : IVec S1x16x16 32 :=
  shapeCast S1x16x16 (extui 32 (cmpf .olt (mRank P)
    (broadcastTo S16x16 (minimumf (broadcast S16x1 (Scalar.ofBits .f32 0x41300000#32)) (maximumf (broadcast S16x1 (Scalar.ofBits .f32 0x3F800000#32)) (mCount (mCum P (mRank P))))) broadcasts_S16x1_S16x16)) natLt_1_32)
    shapeCasts_S16x16_S1x16x16

set_option maxHeartbeats 4000000 in
/-- What the mask body stores. -/
theorem maskOut_eq (x0 x1 : Vec F S1x2048x128 .f32) : maskOut x0 x1 = View.canon [⟨rMask, mForm (maskP x0 x1)⟩] := rfl

end Cert.KernelIdeal.Run
-- ==== Proof.KerArr.lean ====
/- What the two regions leave in their output arrays, index by index. -/
module

public import proofs.«01_k».proof.Proof.IdealRun
public import proofs.«01_k».proof.Proof.AttnForm
public import proofs.«01_k».proof.Proof.MaskForm
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F] [Named F]

/-- One head of an array, as a block. -/
def headOf {e : EltTy} (x : Vec F S16x2048x128 e) (h : Fin 16) : Vec F S1x2048x128 e := fun j => x (ix3 h (j 1) (j 2))
/-- One block of rows of a head. -/
def rowsOf {e : EltTy} (x : Vec F S16x2048x128 e) (h i : Fin 16) : Vec F S1x128x128 e :=
  fun j => x (ix3 h ⟨i.val * 128 + (j 1).val, by have := i.isLt; have h1 : (j 1).val < 128 := (j 1).isLt; omega⟩ (j 2))

theorem index0 : ∀ t : Fin cfg0.N, win0_0.index t = ![t.val, 0, 0] ∧ win0_1.index t = ![t.val, 0, 0] ∧ win0_2.index t = ![t.val, 0, 0] :=
  (by decide +kernel : ∀ t : Fin grid0.N, _)

section Mask

variable (V : (c : Dev nD) → (b : Ref sig .tc) → Buf (Elt F) ((c : Thread nD τ).loc b)) (c : Dev nD)

/-- The head a point of the mask grid works on. -/
def pt0 (t : Fin cfg0.N) : Fin 16 := ⟨t.val, lt_of_lt_of_eq t.isLt N_0⟩

theorem iblk0_0 (t : Fin cfg0.N) : (iblk0 V c 0 t : Vec F S1x2048x128 .f32) = headOf (e := .f32) (V c main_v0) (pt0 t) := by
  funext y
  unfold iblk0 headOf
  blk_simp
  refine congrArg (V c main_v0) ?_
  blk_ext [(index0 t).1, pt0]

theorem iblk0_1 (t : Fin cfg0.N) : (iblk0 V c 1 t : Vec F S1x2048x128 .f32) = headOf (e := .f32) (V c main_v1) (pt0 t) := by
  funext y
  unfold iblk0 headOf
  blk_simp
  refine congrArg (V c main_v1) ?_
  blk_ext [(index0 t).2.1, pt0]

/-- The mask array after its region. -/
theorem mask_arr : (dat0 V c).arrAt 2 cfg0.N
    = fun i : S16x16x16.Idx => (mForm (maskP (headOf (e := .f32) (V c main_v0) (i 0)) (headOf (e := .f32) (V c main_v1) (i 0))) (ix3 0 (i 1) (i 2)) : BitVec 32) := by
  refine (dat0 V c).arrAt_eq_of_covers 2 _ (by decide +kernel) fun t hf y => ?_
  blk_simp
  rw [after0_2, iblk0_0, iblk0_1, maskOut_eq, View.canon_cons_unit_lit _ _ _ (fun a => by fin_cases a <;> rfl)]
  have h0 : (win0_2.blk t).view.emb y 0 = pt0 t := Fin.ext (by blk_simp [(index0 t).2.2, pt0])
  have hy : ix3 (0 : Fin 1) ((win0_2.blk t).view.emb y 1 : Fin 16) ((win0_2.blk t).view.emb y 2 : Fin 16) = y := by
    blk_ext [(index0 t).2.2]
  rw [h0]
  exact congrArg _ hy.symm

end Mask

section Attn

variable (V : (c : Dev nD) → (b : Ref sig .tc) → Buf (Elt F) ((c : Thread nD τ).loc b)) (a : (pcfg1 (F := F)).Adm) (c : Dev nD)

/-- The head and the row block a point of the attention grid works on. -/
def ptH (t : Fin (cfg1 a).N) : Fin 16 := grid1.coords t 0
def ptI (t : Fin (cfg1 a).N) : Fin 16 := grid1.coords t 1

theorem index1 : ∀ t : Fin (cfg1 a).N, ((cfg1 a).win 0).index t = ![(ptH a t).val, (ptI a t).val, 0] ∧ ((cfg1 a).win 1).index t = ![(ptH a t).val, 0, 0]
    ∧ ((cfg1 a).win 2).index t = ![(ptH a t).val, 0, 0] ∧ ((cfg1 a).win 3).index t = ![(ptH a t).val, (ptI a t).val, 0] := by
  intro t
  have h : ∀ x : Fin 16, (BitVec.ofNat 32 x.val).toNat = x.val := by decide
  have h0 : (BitVec.ofNat 32 (grid1.coords t 0).val).toNat = (ptH a t).val := h (ptH a t)
  have h1 : (BitVec.ofNat 32 (grid1.coords t 1).val).toNat = (ptI a t).val := h (ptI a t)
  rw [← h0, ← h1]
  exact ⟨rfl, rfl, rfl, rfl⟩

theorem iblk1_0 (t : Fin (cfg1 a).N) : (iblk1 V a c 0 t : Vec F S1x128x128 .bf16) = rowsOf (e := .bf16) (V c main_v7) (ptH a t) (ptI a t) := by
  funext y
  unfold iblk1 rowsOf
  blk_simp
  refine congrArg (V c main_v7) ?_
  blk_ext [(index1 a t).1]

theorem iblk1_1 (t : Fin (cfg1 a).N) : (iblk1 V a c 1 t : Vec F S1x2048x128 .bf16) = headOf (e := .bf16) (V c main_v8) (ptH a t) := by
  funext y
  unfold iblk1 headOf
  blk_simp
  refine congrArg (V c main_v8) ?_
  blk_ext [(index1 a t).2.1]

theorem iblk1_2 (t : Fin (cfg1 a).N) : (iblk1 V a c 2 t : Vec F S1x2048x128 .bf16) = headOf (e := .bf16) (V c main_v9) (ptH a t) := by
  funext y
  unfold iblk1 headOf
  blk_simp
  refine congrArg (V c main_v9) ?_
  blk_ext [(index1 a t).2.2.1]

/-- The place of word `j` of a point in the table. -/
def wordIx (h i j : Fin 16) : S4096.Idx := Idealize.ShloMosaic.ix1 (⟨256 * h.val + 16 * i.val + j.val, by
  have := h.isLt; have := i.isLt; have := j.isLt
  omega⟩ : Fin 4096)

/-- Mask word `j` of a point. -/
theorem word_at (i : grid1.Coords) (xt : S4096.Idx → BitVec 32) (j : Fin 16) :
    aWord (F := F) c i xt j = IntOp.cmpi .sgt (xt (wordIx (i 0) (i 1) j)) 0#32 := by
  have h : ∀ B : S4096.Idx, B = wordIx (i 0) (i 1) j → Scalar.cmpi .sgt (xt B) 0#32 = IntOp.cmpi .sgt (xt (wordIx (i 0) (i 1) j)) 0#32 := fun B hB => by
    rw [hB]
    rfl
  refine h _ (funext fun (a : Fin 1) => Fin.ext ?_)
  have ha : a = 0 := Subsingleton.elim _ _
  subst ha
  have ho := congrFun (k1_off1_eq i j) 0
  have hf : ((Shape.Idx.first (show 0 < S1.numel by rw [numel1_S1]; exact Nat.one_pos) 0).val : ℕ) < 1 := (Shape.Idx.first (show 0 < S1.numel by rw [numel1_S1]; exact Nat.one_pos) 0).isLt
  show (k1_off1 i (BitVec.ofNat 32 j.val) 0 + 1 * (Shape.Idx.first (show 0 < S1.numel by rw [numel1_S1]; exact Nat.one_pos) 0).val : ℕ) = 256 * (i 0).val + 16 * (i 1).val + j.val
  rw [ho]
  show 256 * (i 0).val + 16 * (i 1).val + j.val + 1 * _ = _
  omega

/-- Reading back the one store. -/
theorem attnLeft_eq (i : grid1.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .f32) (harg6 : arg6.IsWhole)
    (x0 : Vec F S1x128x128 .bf16) (x1 x2 : Vec F S16x2048x128 .bf16) (h : Fin 16) (xt : TbBuf (F := F) c tbM) :
    attnLeft c i arg3 harg3 arg4 harg4 arg5 harg5 arg6 harg6 x0 (headOf x1 h) (headOf x2 h) xt
      = aForm x0 (fun j => rowsOf x1 h j) (fun j => rowsOf x2 h j) (aWord c i xt) := by
  have hb : ∀ (x : Vec F S16x2048x128 .bf16) (j : Fin 16) (y : S1x128x128.Idx), headOf x h ((rBlock j).toLoadRect.idx y) = rowsOf x h j y := fun x j y => by
    unfold headOf rowsOf rBlock
    refine congrArg x ?_
    have hy0 : (y 0).val < 1 := (y 0).isLt
    refine funext fun z => ?_
    fin_cases z
    · rfl
    · refine Fin.ext ?_
      show 128 * j.val + 1 * (y 1).val = j.val * 128 + (y 1).val
      omega
    · refine Fin.ext ?_
      show 0 + 1 * (y 2).val = (y 2).val
      omega
  have hw : ∀ y : S1x128x128.Idx, x0 (rWhole.toLoadRect.idx y) = x0 y := fun y => congrArg x0 (funext fun z => Fin.ext (by
    fin_cases z
    · show 0 + 1 * (y 0).val = (y 0).val
      omega
    · show 0 + 1 * (y 1).val = (y 1).val
      omega
    · show 0 + 1 * (y 2).val = (y 2).val
      omega))
  unfold attnLeft
  rw [View.read_writes_eq_canon _ _ _ (attnRun_cover c i arg3 harg3 arg4 harg4 arg5 harg5 arg6 harg6 x0 (headOf x1 h) (headOf x2 h) xt), attnRun_eq]
  refine (View.canon_cons_unit_lit _ _ _ (fun a => by fin_cases a <;> rfl)).trans ?_
  have e0 : View.readAt (Elt F) arg3.view rWhole.toLoadRect (harg3.unread x0) = x0 := funext fun y => (harg3.readAt_unread x0 _ y).trans (hw y)
  have e1 : (fun j => View.readAt (Elt F) arg4.view (rBlock j).toLoadRect (harg4.unread (headOf x1 h))) = fun j => rowsOf x1 h j :=
    funext fun j => funext fun y => (harg4.readAt_unread _ _ y).trans (hb x1 j y)
  have e2 : (fun j => View.readAt (Elt F) arg5.view (rBlock j).toLoadRect (harg5.unread (headOf x2 h))) = fun j => rowsOf x2 h j :=
    funext fun j => funext fun y => (harg5.readAt_unread _ _ y).trans (hb x2 j y)
  rw [e0, e1, e2]

/-- What a point leaves: the tiled attention of its blocks. -/
theorem outAt_eq (t : Fin (cfg1 a).N) : outAt V a c t
    = aForm (rowsOf (e := .bf16) (V c main_v7) (ptH a t) (ptI a t)) (fun j => rowsOf (e := .bf16) (V c main_v8) (ptH a t) j) (fun j => rowsOf (e := .bf16) (V c main_v9) (ptH a t) j)
        fun j => IntOp.cmpi .sgt ((a.1 0 : S4096.Idx → BitVec 32) (wordIx (ptH a t) (ptI a t) j)) 0#32 := by
  have hw : aWord (F := F) c (grid1.coords t) (a.1 0) = fun j => IntOp.cmpi .sgt ((a.1 0 : S4096.Idx → BitVec 32) (wordIx (ptH a t) (ptI a t) j)) 0#32 :=
    funext fun j => word_at c (grid1.coords t) (a.1 0) j
  unfold outAt
  rw [← hw, iblk1_0, iblk1_1, iblk1_2]
  exact attnLeft_eq c _ _ _ _ _ _ _ _ _ _ _ _ _ _

/-- The block of rows a row of the array lies in, and its place there. -/
def rowBlk (x : Fin 2048) : Fin 16 := ⟨x.val / 128, by have := x.isLt; omega⟩
def rowIn (x : Fin 2048) : Fin 128 := ⟨x.val % 128, Nat.mod_lt _ (by norm_num)⟩

/-- The output's blocks fill its array. -/
theorem covers1 : ((cfg1 a).win 3).Covers :=
  ((cfg1 a).win 3).covers_of_indexMap_surj rfl (show ∀ x : Fin 3, 0 < S1x128x128.size x by decide)
    (show ∀ β : (x : Fin 3) → Fin ((S16x2048x128.size x + S1x128x128.size x - 1) / S1x128x128.size x), ∃ i : grid1.Coords, ∀ x : Fin 3, cc1_transform_3 i x = β x from fun β => by
      have h0 : (β 0).val < 16 := lt_of_lt_of_eq (β 0).isLt (by decide)
      have h1 : (β 1).val < 16 := lt_of_lt_of_eq (β 1).isLt (by decide)
      have h2 : (β 2).val < 1 := lt_of_lt_of_eq (β 2).isLt (by decide)
      have h : ∀ x : Fin 16, (BitVec.ofNat 32 x.val).toNat = x.val := by decide
      refine ⟨fun x : Fin 2 => if hx : x = 0 then hx ▸ ⟨(β 0).val, h0⟩ else (show x = 1 by omega) ▸ ⟨(β 1).val, h1⟩, fun x => ?_⟩
      fin_cases x
      · exact h ⟨(β 0).val, h0⟩
      · exact h ⟨(β 1).val, h1⟩
      · show 0 = (β 2).val
        omega)

/-- The output array, from the buffers the region finds. -/
def attnArr (i : S16x2048x128.Idx) : F .f32 :=
  aForm (rowsOf (e := .bf16) (V c main_v7) (i 0) (rowBlk (i 1))) (fun j => rowsOf (e := .bf16) (V c main_v8) (i 0) j) (fun j => rowsOf (e := .bf16) (V c main_v9) (i 0) j)
    (fun j => IntOp.cmpi .sgt ((a.1 0 : S4096.Idx → BitVec 32) (wordIx (i 0) (rowBlk (i 1)) j)) 0#32) (ix3 0 (rowIn (i 1)) (i 2))

/-- What a point leaves at an entry is the array's entry there. -/
theorem attn_point (t : Fin (cfg1 a).N) (y : S1x128x128.Idx) (i : S16x2048x128.Idx) (h0 : (i 0).val = (ptH a t).val + (y 0).val)
    (h1 : (i 1).val = (ptI a t).val * 128 + (y 1).val) (h2 : (i 2).val = (y 2).val) : outAt V a c t y = attnArr V a c i := by
  have hy0 : (y 0).val < 1 := (y 0).isLt
  have hy1 : (y 1).val < 128 := (y 1).isLt
  have e0 : i 0 = ptH a t := Fin.ext (by omega)
  have hb : rowBlk (i 1) = ptI a t := Fin.ext (by
    show (i 1).val / 128 = _
    omega)
  have hr : rowIn (i 1) = y 1 := Fin.ext (by
    show (i 1).val % 128 = _
    omega)
  have e2 : i 2 = y 2 := Fin.ext h2
  unfold attnArr
  rw [outAt_eq, e0, hb, hr, e2]
  refine congrArg _ (funext fun x => ?_)
  fin_cases x
  · exact Fin.ext (by
      show (y 0).val = 0
      omega)
  · rfl
  · rfl

/-- The output array after its region. -/
theorem attn_arr : (dat1 V a c).arrAt 3 (cfg1 a).N = attnArr V a c := by
  refine (dat1 V a c).arrAt_eq_of_covers 3 _ (covers1 a) fun t hf y => ?_
  blk_simp
  rw [after1_3]
  have hx := (index1 a t).2.2.2
  refine attn_point V a c t y _ ?_ ?_ ?_
  · refine (Pipeline.Window.rect_emb_val ((cfg1 a).win 3) t y (0 : Fin 3) rfl).trans ?_
    rw [hx]
    show (ptH a t).val * 1 + _ = _
    omega
  · refine (Pipeline.Window.rect_emb_val ((cfg1 a).win 3) t y (1 : Fin 3) rfl).trans ?_
    rw [hx]
    rfl
  · refine (Pipeline.Window.rect_emb_val ((cfg1 a).win 3) t y (2 : Fin 3) rfl).trans ?_
    rw [hx]
    show 0 * 128 + _ = _
    omega

end Attn

end Cert.KernelIdeal.Run
-- ==== Proof.KerAttn.lean ====
/- The attention body's block read at an index, over the extended reals: the tiled attention of the blocks it is given. -/
module

public import proofs.«01_k».proof.Proof.AttnForm
public import proofs.«01_k».proof.Proof.Spec
public import Idealize.ShloMosaic.Lib.Pointwise

@[expose] public section

noncomputable section

namespace Cert.KernelIdeal.Read

open Cert.KernelIdeal Cert.KernelIdeal.Gen Cert.KernelIdeal.Run Idealize.ShloMosaic

theorem aScore_at (q k : FVec Ideal S1x128x128 .bf16) (a t : Fin 128) : aScore (F := Ideal) q k (ix2 a t) = ∑ x : Fin 128, q (ix3 0 a x) * k (ix3 0 t x) := by
  pointwise [aScore]

theorem aMax_at (s : FVec Ideal S128x128 .f32) (a : Fin 128) : aMax (F := Ideal) s (ix2 a 0) = Finset.univ.sup fun t : Fin 128 => s (ix2 a t) := by
  pointwise [aMax]
  rw [Consts.cbot, Spec.fold_sup]

theorem aExp_at (s : FVec Ideal S128x128 .f32) (a t : Fin 128) : aExp (F := Ideal) s (ix2 a t) = Ideal.exp (s (ix2 a t) - aMax (F := Ideal) s (ix2 a 0)) := by
  pointwise [aExp]

theorem aSum_at (s : FVec Ideal S128x128 .f32) (a : Fin 128) : aSum (F := Ideal) s (ix2 a 0) = ∑ t : Fin 128, aExp (F := Ideal) s (ix2 a t) := by
  pointwise [aSum]

theorem aKept_at (w : BitVec 1) (m : FVec Ideal S128x1 .f32) (a : Fin 128) : aKept (F := Ideal) w m (ix2 a 0) = if w = 1#1 then m (ix2 a 0) else ⊥ := by
  by_cases h : w = 1#1
  · subst h
    rfl
  · rw [if_neg h]
    exact (congrFun (if_neg h) (ix2 a 0)).trans rfl

theorem aBeta_at (w : BitVec 1) (m top : FVec Ideal S128x1 .f32) (a : Fin 128) :
    aBeta (F := Ideal) w m top (ix2 a 0) = if w = 1#1 then Ideal.exp (m (ix2 a 0) - top (ix2 a 0)) else 0 := by
  by_cases h : w = 1#1
  · subst h
    rfl
  · rw [if_neg h]
    refine (congrFun (if_neg h) (ix2 a 0)).trans ?_
    pointwise []

/-- The largest of sixteen, taken in pairs. -/
theorem sup16 (f : Fin 16 → EReal) : max (max (max (max (f 0) (f 1)) (max (f 2) (f 3))) (max (max (f 4) (f 5)) (max (f 6) (f 7))))
    (max (max (max (f 8) (f 9)) (max (f 10) (f 11))) (max (max (f 12) (f 13)) (max (f 14) (f 15)))) = Finset.univ.sup f := by
  refine le_antisymm ?_ (Finset.sup_le fun j _ => ?_)
  · simp only [max_le_iff]
    have h : ∀ j, f j ≤ Finset.univ.sup f := fun j => Finset.le_sup (Finset.mem_univ j)
    simp only [h, and_self]
  · fin_cases j <;> simp

theorem sum16 (f : Fin 16 → EReal) : ((((f 0 + f 1) + (f 2 + f 3)) + ((f 4 + f 5) + (f 6 + f 7))) + (((f 8 + f 9) + (f 10 + f 11)) + ((f 12 + f 13) + (f 14 + f 15)))) = ∑ j, f j := by
  simp only [Fin.sum_univ_succ, Fin.sum_univ_zero, add_zero]
  simp only [add_assoc]
  rfl

theorem aTop_at (w : Fin 16 → BitVec 1) (m : Fin 16 → FVec Ideal S128x1 .f32) (a : Fin 128) :
    aTop (F := Ideal) w m (ix2 a 0) = Finset.univ.sup fun j => if w j = 1#1 then m j (ix2 a 0) else ⊥ := by
  rw [← sup16]
  simp only [← aKept_at]
  rfl

theorem aDen_at (b l : Fin 16 → FVec Ideal S128x1 .f32) (a : Fin 128) : aDen (F := Ideal) b l (ix2 a 0) = ∑ j, b j (ix2 a 0) * l j (ix2 a 0) := by
  rw [← sum16]
  simp only [add_assoc]
  unfold aDen
  pointwise []
  simp only [add_assoc]

theorem aOut_at (e : FVec Ideal S128x128 .f32) (b : FVec Ideal S128x1 .f32) (v : FVec Ideal S1x128x128 .bf16) (a x : Fin 128) :
    aOut (F := Ideal) e b v (ix2 a x) = ∑ t : Fin 128, e (ix2 a t) * b (ix2 a 0) * v (ix3 0 t x) := by
  pointwise [aOut]

theorem aNum_at (o : Fin 16 → FVec Ideal S128x128 .f32) (a x : Fin 128) : aNum (F := Ideal) o (ix2 a x) = ∑ j, o j (ix2 a x) := by
  rw [← sum16]
  rfl

theorem aQuot_at (n : FVec Ideal S128x128 .f32) (d : FVec Ideal S128x1 .f32) (a x : Fin 128) :
    (shapeCast S1x128x128 (divf n (broadcastTo S128x128 d broadcasts_S128x1_S128x128)) shapeCasts_S128x128_S1x128x128 : FVec Ideal S1x128x128 .f32) (ix3 0 a x)
      = Ideal.div (n (ix2 a x)) (d (ix2 a 0)) := by
  pointwise []

/-- The block of output is the tiled attention. -/
theorem aForm_at (q : FVec Ideal S1x128x128 .bf16) (k v : Fin 16 → FVec Ideal S1x128x128 .bf16) (w : Fin 16 → BitVec 1) (a x : Fin 128) :
    aForm (F := Ideal) q k v w (ix3 0 a x)
      = AttnMath.tiled (fun j t => ∑ y : Fin 128, q (ix3 0 a y) * k j (ix3 0 t y)) (fun j => w j = 1#1) fun j t => v j (ix3 0 t x) := by
  unfold aForm
  rw [aQuot_at, aNum_at, aDen_at]
  simp only [aOut_at, aSum_at, aExp_at, aBeta_at, aTop_at, aMax_at, aScore_at]
  rfl

end Cert.KernelIdeal.Read
-- ==== Proof.KerMask.lean ====
/- The mask body's block read at an index, over the extended reals: the word of a block is set exactly when the block is kept. -/
module

public import proofs.«01_k».proof.Proof.MaskForm
public import proofs.«01_k».proof.Proof.Spec
public import Idealize.ShloMosaic.Lib.Pointwise

@[expose] public section

noncomputable section

namespace Cert.KernelIdeal.Read

open Cert.KernelIdeal Cert.KernelIdeal.Gen Cert.KernelIdeal.Run Idealize.ShloMosaic

/-- A flag as a number is one or zero. -/
theorem flag (b : BitVec 1) : (FloatOps.sitofp .f32 (BitVec.setWidth 32 b) : Ideal .f32) = if b = 1#1 then (1 : EReal) else 0 := by
  show (((BitVec.setWidth 32 b).toInt : ℝ) : EReal) = _
  rcases (show ∀ b : BitVec 1, b = 0#1 ∨ b = 1#1 by decide) b with rfl | rfl
  · rw [if_neg (by decide), show (BitVec.setWidth 32 0#1).toInt = 0 by decide]
    simp
  · rw [if_pos rfl, show (BitVec.setWidth 32 1#1).toInt = 1 by decide]
    simp

theorem ofBool_one (p : Prop) [Decidable p] : BitVec.ofBool (decide p) = 1#1 ↔ p := by
  by_cases h : p <;> simp [h]

theorem mOne_at {s : Shape} (b : IVec s 1) (j : s.Idx) : mOne (F := Ideal) b j = if b j = 1#1 then (1 : EReal) else 0 := flag (b j)

theorem mSum_at {n : ℕ} (x : FVec Ideal (rows n) .f32) (hr : (rows n).Reduces [1] S16) (r : Fin 16) : mSum (F := Ideal) x hr (ix2 r 0) = ∑ k : Fin n, x (ix2 r k) := by
  pointwise [mSum]

theorem mCol_at (P : FVec Ideal S16x16 .f32) (n : Fin 16) (hs : S16x16.Slices ![0, n.val] S16x1) (r : Fin 16) : mCol (F := Ideal) P n.val hs (ix2 r 0) = P (ix2 r n) := by
  pointwise [mCol]

theorem mAbove_at (P : FVec Ideal S16x16 .f32) (n : Fin 16) (hs : S16x16.Slices ![0, n.val] S16x1) (r : Fin 16) :
    mAbove (F := Ideal) P n.val hs (ix2 r 0) = ((Finset.univ.filter fun x : Fin 16 => P (ix2 r n) < P (ix2 r x)).card : ℕ) := by
  unfold mAbove
  rw [mSum_at, ← MaskMath.sum_ind]
  refine Finset.sum_congr rfl fun x _ => ?_
  rw [mOne_at]
  refine if_congr ?_ rfl rfl
  refine Iff.trans ?_ (ofBool_one _)
  pointwise [mCol]

theorem mEq_at (P : FVec Ideal S16x16 .f32) (n : Fin 16) (hs : S16x16.Slices ![0, n.val] S16x1) (hl : S16x16.Slices ![0, 0] (rows n.val))
    (hb : S16x1.Broadcasts (rows n.val)) (hr : (rows n.val).Reduces [1] S16) (r : Fin 16) :
    mSum (F := Ideal) (mOne (F := Ideal) (cmpf .oeq (extractStridedSlice (rows n.val) ![0, 0] P hl) (broadcastTo (rows n.val) (mCol (F := Ideal) P n.val hs) hb))) hr (ix2 r 0)
      = ((Finset.univ.filter fun x : Fin n.val => P (ix2 r ⟨x.val, x.isLt.trans n.isLt⟩) = P (ix2 r n)).card : ℕ) := by
  rw [mSum_at, ← MaskMath.sum_ind]
  refine Finset.sum_congr rfl fun x _ => ?_
  rw [mOne_at]
  refine if_congr ?_ rfl rfl
  refine Iff.trans ?_ (ofBool_one _)
  pointwise [mCol]

theorem mPlace_at (P : FVec Ideal S16x16 .f32) (n : Fin 16) (hs : S16x16.Slices ![0, n.val] S16x1) (hl : S16x16.Slices ![0, 0] (rows n.val))
    (hb : S16x1.Broadcasts (rows n.val)) (hr : (rows n.val).Reduces [1] S16) (r : Fin 16) :
    mPlace (F := Ideal) P n.val hs hl hb hr (ix2 r 0) = ((MaskMath.rk (fun c => P (ix2 r c)) n : ℕ) : EReal) := by
  rw [MaskMath.rk_split, Nat.cast_add, ← mAbove_at P n hs, ← mEq_at P n hs hl hb hr]
  rfl

theorem mPut_at (n : ℕ) (hn : n < 16) (x : FVec Ideal S16x1 .f32) (acc : FVec Ideal S16x16 .f32) (r c : Fin 16) :
    mPut (F := Ideal) n x acc (ix2 r c) = if c.val = n then acc (ix2 r c) + x (ix2 r 0) else acc (ix2 r c) := by
  have h : mPut (F := Ideal) n x acc (ix2 r c) = acc (ix2 r c) + x (ix2 r 0) * (FloatOps.sitofp .f32 (BitVec.setWidth 32 (IntOp.cmpi .eq (BitVec.ofNat 32 c.val) (BitVec.ofNat 32 n))) : Ideal .f32) := by
    pointwise [mPut, mOne]
  rw [h, flag]
  have hd : ∀ c n : Fin 16, IntOp.cmpi .eq (BitVec.ofNat 32 c.val) (BitVec.ofNat 32 n.val) = 1#1 ↔ c.val = n.val := by decide
  by_cases hc : c.val = n
  · rw [if_pos hc, if_pos ((hd c ⟨n, hn⟩).mpr hc), mul_one]
  · rw [if_neg hc, if_neg (fun k => hc ((hd c ⟨n, hn⟩).mp k)), mul_zero, add_zero]

/-- Sixteen columns put in place: each is read back in its own column. -/
theorem puts_at (x0 x1 x2 x3 x4 x5 x6 x7 x8 x9 x10 x11 x12 x13 x14 x15 : FVec Ideal S16x1 .f32) (r c : Fin 16) :
    mPut (F := Ideal) 15 x15 (mPut (F := Ideal) 14 x14 (mPut (F := Ideal) 13 x13 (mPut (F := Ideal) 12 x12 (mPut (F := Ideal) 11 x11 (mPut (F := Ideal) 10 x10 (mPut (F := Ideal) 9 x9 (mPut (F := Ideal) 8 x8 (mPut (F := Ideal) 7 x7 (mPut (F := Ideal) 6 x6 (mPut (F := Ideal) 5 x5 (mPut (F := Ideal) 4 x4 (mPut (F := Ideal) 3 x3 (mPut (F := Ideal) 2 x2 (mPut (F := Ideal) 1 x1 (mPut (F := Ideal) 0 x0 (broadcast S16x16 (Scalar.ofBits .f32 0x00000000#32) : FVec Ideal S16x16 .f32)))))))))))))))) (ix2 r c)
      = (![x0, x1, x2, x3, x4, x5, x6, x7, x8, x9, x10, x11, x12, x13, x14, x15] : Fin 16 → FVec Ideal S16x1 .f32) c (ix2 r 0) := by
  have h0 : (broadcast S16x16 (Scalar.ofBits .f32 0x00000000#32) : FVec Ideal S16x16 .f32) (ix2 r c) = 0 := by pointwise []
  rw [mPut_at 15 (by norm_num), mPut_at 14 (by norm_num), mPut_at 13 (by norm_num), mPut_at 12 (by norm_num), mPut_at 11 (by norm_num), mPut_at 10 (by norm_num), mPut_at 9 (by norm_num), mPut_at 8 (by norm_num), mPut_at 7 (by norm_num), mPut_at 6 (by norm_num), mPut_at 5 (by norm_num), mPut_at 4 (by norm_num), mPut_at 3 (by norm_num), mPut_at 2 (by norm_num), mPut_at 1 (by norm_num), mPut_at 0 (by norm_num), h0]
  fin_cases c <;> simp

/-- The column of block `c`'s ranks. -/
theorem mRank_at (P : FVec Ideal S16x16 .f32) (r c : Fin 16) : mRank (F := Ideal) P (ix2 r c) = ((MaskMath.rk (fun c => P (ix2 r c)) c : ℕ) : EReal) := by
  unfold mRank
  rw [puts_at]
  fin_cases c
  · rw [MaskMath.rk_split, Nat.cast_add]
    refine congrArg₂ (· + ·) (mAbove_at P 0 _ r) ?_
    rw [Finset.filter_eq_empty_iff.mpr fun x => x.elim0]
    rw [Finset.card_empty, Nat.cast_zero]
    pointwise []
  · rw [MaskMath.rk_split, Nat.cast_add]
    refine congrArg₂ (· + ·) (mAbove_at P 1 _ r) ?_
    rw [mSum_at, ← MaskMath.sum_ind]
    refine Finset.sum_congr rfl fun x _ => ?_
    rw [mOne_at]
    refine if_congr ?_ rfl rfl
    refine Iff.trans ?_ (ofBool_one _)
    have hx : x = 0 := Subsingleton.elim _ _
    subst hx
    pointwise [mCol]
  exacts [mPlace_at P 2 _ _ _ _ r, mPlace_at P 3 _ _ _ _ r, mPlace_at P 4 _ _ _ _ r, mPlace_at P 5 _ _ _ _ r, mPlace_at P 6 _ _ _ _ r, mPlace_at P 7 _ _ _ _ r, mPlace_at P 8 _ _ _ _ r, mPlace_at P 9 _ _ _ _ r, mPlace_at P 10 _ _ _ _ r, mPlace_at P 11 _ _ _ _ r, mPlace_at P 12 _ _ _ _ r, mPlace_at P 13 _ _ _ _ r, mPlace_at P 14 _ _ _ _ r, mPlace_at P 15 _ _ _ _ r]

theorem mUpTo_at (P R : FVec Ideal S16x16 .f32) (n r : Fin 16) (p : Fin 16 → EReal) (hP : ∀ c, P (ix2 r c) = p c) (hR : ∀ c, R (ix2 r c) = ((MaskMath.rk p c : ℕ) : EReal)) :
    mUpTo (F := Ideal) P R (Consts.lit n) (ix2 r 0) = MaskMath.cum p n := by
  unfold mUpTo
  rw [mSum_at, ← MaskMath.sum_place]
  refine Finset.sum_congr rfl fun x _ => ?_
  have h : ∀ b : FVec Ideal S16x16 .f32, mulf P b (ix2 r x) = P (ix2 r x) * b (ix2 r x) := fun b => rfl
  rw [h, mOne_at, hP]
  have hd : cmpf .ole R (broadcast S16x16 (Scalar.ofBits .f32 (Consts.lit n))) (ix2 r x) = BitVec.ofBool (decide (R (ix2 r x) ≤ Ideal.ofBits .f32 (Consts.lit n))) := rfl
  rw [hd, hR, Consts.clit]
  by_cases hc : MaskMath.rk p x ≤ n.val
  · rw [if_pos hc, if_pos ((ofBool_one _).mpr (by exact_mod_cast hc)), mul_one]
  · rw [if_neg hc, if_neg (fun k => hc (by exact_mod_cast (ofBool_one _).mp k)), mul_zero]

theorem mCum_at (P R : FVec Ideal S16x16 .f32) (r c : Fin 16) (p : Fin 16 → EReal) (hP : ∀ c, P (ix2 r c) = p c) (hR : ∀ c, R (ix2 r c) = ((MaskMath.rk p c : ℕ) : EReal)) :
    mCum (F := Ideal) P R (ix2 r c) = MaskMath.cum p c := by
  rw [← mUpTo_at P R c r p hP hR]
  unfold mCum
  rw [puts_at]
  fin_cases c <;> rfl

theorem mCount_at (C : FVec Ideal S16x16 .f32) (r : Fin 16) :
    mCount (F := Ideal) C (ix2 r 0) = ((Finset.univ.filter fun c : Fin 16 => C (ix2 r c) < Ideal.ofBits .f32 0x3F733333#32 * C (ix2 r 15)).card : ℕ) := by
  unfold mCount
  rw [mSum_at, ← MaskMath.sum_ind]
  refine Finset.sum_congr rfl fun x _ => ?_
  rw [mOne_at]
  refine if_congr ?_ rfl rfl
  refine Iff.trans ?_ (ofBool_one _)
  pointwise [mCol]

theorem mFinal_at (R : FVec Ideal S16x16 .f32) (N : FVec Ideal S16x1 .f32) (r c : Fin 16) :
    (shapeCast S1x16x16 (extui 32 (cmpf .olt R (broadcastTo S16x16 (minimumf (broadcast S16x1 (Scalar.ofBits .f32 0x41300000#32)) (maximumf (broadcast S16x1 (Scalar.ofBits .f32 0x3F800000#32)) N)) broadcasts_S16x1_S16x16)) natLt_1_32)
      shapeCasts_S16x16_S1x16x16 : IVec S1x16x16 32) (ix3 0 r c)
      = BitVec.setWidth 32 (BitVec.ofBool (decide (R (ix2 r c) < min (Ideal.ofBits .f32 0x41300000#32) (max (Ideal.ofBits .f32 0x3F800000#32) (N (ix2 r 0)))))) := by
  pointwise []

/-- The mask of one head, from its probabilities. -/
theorem mForm_at (P : FVec Ideal S16x16 .f32) (r c : Fin 16) (p : Fin 16 → EReal) (hP : ∀ c, P (ix2 r c) = p c) :
    mForm (F := Ideal) P (ix3 0 r c) = BitVec.setWidth 32 (BitVec.ofBool (decide (MaskMath.rk p c < Spec.nkeep p))) := by
  have hP' : (fun c => P (ix2 r c)) = p := funext hP
  have hR : ∀ c, mRank (F := Ideal) P (ix2 r c) = ((MaskMath.rk p c : ℕ) : EReal) := fun c => by rw [mRank_at, hP']
  unfold mForm
  rw [mFinal_at, mCount_at, hR]
  simp only [mCum_at P _ r _ p hP hR]
  have h : (((MaskMath.rk p c : ℕ) : EReal) < min (Ideal.ofBits .f32 0x41300000#32) (max (Ideal.ofBits .f32 0x3F800000#32)
      (((Finset.univ.filter fun c : Fin 16 => MaskMath.cum p c < Ideal.ofBits .f32 0x3F733333#32 * MaskMath.cum p 15).card : ℕ) : EReal)))
      ↔ MaskMath.rk p c < Spec.nkeep p := by
    unfold Spec.nkeep
    generalize (Finset.univ.filter fun c : Fin 16 => MaskMath.cum p c < Ideal.ofBits .f32 0x3F733333#32 * MaskMath.cum p 15).card = m
    rw [Consts.c11, Consts.c1, show ((11 : ℝ) : EReal) = ((11 : ℕ) : EReal) by norm_cast, show ((1 : ℝ) : EReal) = ((1 : ℕ) : EReal) by norm_cast, lt_min_iff, lt_max_iff, lt_min_iff, lt_max_iff]
    simp only [Nat.cast_lt]
  simp only [h]

theorem maskP_at (x y : FVec Ideal S1x2048x128 .f32) (q k : Spec.Arg) (h r c : Fin 16) (hx : ∀ a b, x (ix3 0 a b) = q h a b) (hy : ∀ a b, y (ix3 0 a b) = k h a b) :
    maskP (F := Ideal) x y (ix2 r c) = Spec.bprob q k h r c := by
  have h0 : maskP (F := Ideal) x y = k0_pay2 (F := Ideal) x y := by
    unfold maskP
    have hz : (![0, 0, 0] : Fin S1x2048x128.rank → ℕ) = fun _ => 0 := by
      funext a
      fin_cases a <;> rfl
    rw [View.ld_unit_zero hz, View.ld_unit_zero hz]
  rw [h0]
  pointwise [k0_pay2]
  simp only [hx, hy]
  rw [Consts.cbot, Spec.fold_sup]
  rfl

end Cert.KernelIdeal.Read
-- ==== Proof.KerValue.lean ====
/- The kernel's result is the block-sparse attention. -/
module

public import proofs.«01_k».proof.Proof.KerArr
public import proofs.«01_k».proof.Proof.KerAttn
public import proofs.«01_k».proof.Proof.KerMask
public import Idealize.ShloMosaic.Lib.StableHlo.ReadAt

@[expose] public section

set_option maxRecDepth 16384

noncomputable section

namespace Cert.KernelIdeal.Read

open Cert.KernelIdeal Cert.KernelIdeal.Gen Cert.KernelIdeal.Run
open Idealize.ShloMosaic Idealize.ShloMosaic.TcCoe Idealize.ShloMosaic.Tactic Idealize.SL.Sem

variable (m : (ℓ : Loc nD τ sig) → Buf (Elt Ideal) ℓ) (c : Dev nD)

/-- An argument as one head-indexed operand. -/
def argOf (x : FVec Ideal S1x16x2048x128 .f32) : Spec.Arg := fun h a b => x (ix4 0 h a b)
abbrev Q : FVec Ideal S1x16x2048x128 .f32 := m ((c : Thread nD τ).loc main_arg0)
abbrev K : FVec Ideal S1x16x2048x128 .f32 := m ((c : Thread nD τ).loc main_arg1)
abbrev X : FVec Ideal S1x16x2048x128 .f32 := m ((c : Thread nD τ).loc main_arg2)

theorem v0_at (h : Fin 16) (a : Fin 2048) (x : Fin 128) : (W1 m c (Proc.devRef .tc main_v0) : FVec Ideal S16x2048x128 .f32) (ix3 h a x) = argOf (Q m c) h a x := by
  unfold argOf W1
  after_reads_at
theorem v1_at (h : Fin 16) (a : Fin 2048) (x : Fin 128) : (W1 m c (Proc.devRef .tc main_v1) : FVec Ideal S16x2048x128 .f32) (ix3 h a x) = argOf (K m c) h a x := by
  unfold argOf W1
  after_reads_at
theorem v2_at (h : Fin 16) (a : Fin 2048) (x : Fin 128) : (W1 m c (Proc.devRef .tc main_v2) : FVec Ideal S16x2048x128 .f32) (ix3 h a x) = argOf (X m c) h a x := by
  unfold argOf W1
  after_reads_at

theorem keep0 : W2 m c (Proc.devRef .tc main_v0) = W1 m c (Proc.devRef .tc main_v0) := W2_keeps m c main_v0 (by decide)
theorem keep1 : W2 m c (Proc.devRef .tc main_v1) = W1 m c (Proc.devRef .tc main_v1) := W2_keeps m c main_v1 (by decide)
theorem keep2 : W2 m c (Proc.devRef .tc main_v2) = W1 m c (Proc.devRef .tc main_v2) := W2_keeps m c main_v2 (by decide)

theorem v7_at (h : Fin 16) (a : Fin 2048) (x : Fin 128) :
    (W3 m c (Proc.devRef .tc main_v7) : FVec Ideal S16x2048x128 .bf16) (ix3 h a x) = argOf (Q m c) h a x * Ideal.ofBits .f32 0x3DB504F3#32 := by
  rw [← v0_at, ← keep0]
  unfold W3
  after_reads_at
theorem v8_at (h : Fin 16) (a : Fin 2048) (x : Fin 128) :
    (W3 m c (Proc.devRef .tc main_v8) : FVec Ideal S16x2048x128 .bf16) (ix3 h a x) = argOf (K m c) h a x := by
  rw [← v1_at, ← keep1]
  unfold W3
  after_reads_at
theorem v9_at (h : Fin 16) (a : Fin 2048) (x : Fin 128) :
    (W3 m c (Proc.devRef .tc main_v9) : FVec Ideal S16x2048x128 .bf16) (ix3 h a x) = argOf (X m c) h a x := by
  rw [← v2_at, ← keep2]
  unfold W3
  after_reads_at

theorem v4_at (h i j : Fin 16) :
    (W3 m c (Proc.devRef .tc main_v4) : IVec S4096 32) (wordIx h i j) = (W2 m c (Proc.devRef .tc main_v3) : IVec S16x16x16 32) (ix3 h i j) := by
  unfold W3 wordIx
  after_reads_at

/-- The mask array holds the kept blocks. -/
theorem v3_at (h i j : Fin 16) :
    (W2 m c (Proc.devRef .tc main_v3) : IVec S16x16x16 32) (ix3 h i j) = BitVec.setWidth 32 (BitVec.ofBool (decide (Spec.keep (argOf (Q m c)) (argOf (K m c)) h i j))) := by
  rw [W2_mask, mask_arr]
  refine (mForm_at _ i j (Spec.bprob (argOf (Q m c)) (argOf (K m c)) h i) fun c' => ?_).trans rfl
  exact maskP_at _ _ _ _ h i c' (fun a b => v0_at m c h a b) (fun a b => v1_at m c h a b)

theorem word_set (p : Prop) [Decidable p] : IntOp.cmpi .sgt (BitVec.setWidth 32 (BitVec.ofBool (decide p))) 0#32 = 1#1 ↔ p := by
  by_cases h : p <;> simp only [h, decide_true, decide_false] <;> decide

/-- A point's words say which blocks it keeps. -/
theorem words_at (h i j : Fin 16) :
    IntOp.cmpi .sgt (((adm1 m).1 0 : S4096.Idx → BitVec 32) (wordIx h i j)) 0#32 = 1#1 ↔ Spec.keep (argOf (Q m c)) (argOf (K m c)) h i j := by
  have hc : c = 0 := Subsingleton.elim _ _
  subst hc
  refine Iff.trans ?_ (word_set _)
  rw [← v3_at, ← v4_at]
  rfl

/-- The scores with the scale inside are the scores with the scale outside. -/
theorem score_in (hq : Spec.IsReal (argOf (Q m c))) (hk : Spec.IsReal (argOf (K m c))) (h : Fin 16) (a b : Fin 2048) :
    (∑ x : Fin 128, argOf (Q m c) h a x * Ideal.ofBits .f32 0x3DB504F3#32 * argOf (K m c) h b x) = Spec.score (argOf (Q m c)) (argOf (K m c)) h a b := by
  obtain ⟨s, hs⟩ := Consts.cscale
  choose q hq' using hq
  choose k hk' using hk
  unfold Spec.score
  simp only [hq', hk', hs, ← EReal.coe_mul, ← AttnMath.coe_sum]
  rw [Finset.sum_mul]
  exact congrArg _ (Finset.sum_congr rfl fun x _ => by ring)

theorem tiled_congr {n l : ℕ} {s s' : Fin n → Fin l → EReal} {k k' : Fin n → Prop} [DecidablePred k] [DecidablePred k'] {v v' : Fin n → Fin l → EReal}
    (hs : ∀ j t, s j t = s' j t) (hk : ∀ j, k j ↔ k' j) (hv : ∀ j t, v j t = v' j t) : AttnMath.tiled s k v = AttnMath.tiled s' k' v' := by
  obtain rfl : s = s' := funext fun j => funext (hs j)
  obtain rfl : v = v' := funext fun j => funext (hv j)
  obtain rfl : k = k' := funext fun j => propext (hk j)
  congr!

/-- The attention array. -/
theorem v10_at (hq : Spec.IsReal (argOf (Q m c))) (hk : Spec.IsReal (argOf (K m c))) (h : Fin 16) (a : Fin 2048) (b : Fin 128) :
    (W4 m c (Proc.devRef .tc main_v10) : FVec Ideal S16x2048x128 .f32) (ix3 h a b) = Spec.out (argOf (Q m c)) (argOf (K m c)) (argOf (X m c)) h a b := by
  have ha : (⟨(rowBlk a).val * 128 + (rowIn a).val, by have := (rowBlk a).isLt; have := (rowIn a).isLt; omega⟩ : Fin 2048) = a := Fin.ext (by
    show a.val / 128 * 128 + a.val % 128 = a.val
    omega)
  rw [W4_out, attn_arr]
  refine (aForm_at _ _ _ _ (rowIn a) b).trans ?_
  choose s hs using fun j t => Spec.real_score hq hk h a (Spec.blk j t)
  refine (tiled_congr (s' := fun j t => ((s j t : ℝ) : EReal)) (k' := Spec.keep (argOf (Q m c)) (argOf (K m c)) h (Spec.blkOf a))
    (v' := fun j t => argOf (X m c) h (Spec.blk j t) b) (fun j t => ?_) (fun j => words_at m c h (rowBlk a) j) fun j t => v9_at m c h (Spec.blk j t) b).trans ?_
  · rw [← hs, ← score_in m c hq hk]
    refine Finset.sum_congr rfl fun x _ => ?_
    rw [← v7_at, ← v8_at]
    exact congrArg₂ (· * ·) (congrArg (fun a' : Fin 2048 => (W3 m c (Proc.devRef .tc main_v7) : FVec Ideal S16x2048x128 .bf16) (ix3 h a' x)) ha) rfl
  · rw [AttnMath.tiled_eq_plain (by norm_num) s _ (Spec.exists_keep _ _ _ _)]
    simp only [← hs]
    rfl

/-- The result. -/
theorem v11_at (hq : Spec.IsReal (argOf (Q m c))) (hk : Spec.IsReal (argOf (K m c))) (h : Fin 16) (a : Fin 2048) (b : Fin 128) :
    (W5 m c (Proc.devRef .tc main_v11) : FVec Ideal S1x16x2048x128 .f32) (ix4 0 h a b) = Spec.out (argOf (Q m c)) (argOf (K m c)) (argOf (X m c)) h a b := by
  rw [← v10_at m c hq hk]
  unfold W5
  after_reads_at

end Cert.KernelIdeal.Read
-- ==== Proof.Value.lean ====
/- From arguments that agree, with real queries and keys, the kernel and the reference end with equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.RefValue
public import proofs.«01_k».proof.Proof.KerValue
public import Idealize.ShloMosaic.Lib.ReduceAll

@[expose] public section

set_option maxRecDepth 16384

noncomputable section

namespace Cert.Proof

open Idealize.ShloMosaic Idealize.ShloMosaic.TcCoe Idealize.SL.Sem

/-- A value whose size is below plus infinity is a real. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have h' : max x (-x) < ⊤ := (Ideal.cmp_olt_eq_one _ _).1 h
  rw [max_lt_iff] at h'
  induction x using EReal.rec with
  | bot => exact absurd h'.2 (by simp)
  | coe r => exact ⟨r, rfl⟩
  | top => exact absurd h'.1 (by simp)

/-- The precondition gives real queries and keys. -/
theorem real_of_finite (q k v : FVec Ideal Cert.Pre_finite.S1x16x2048x128 .f32)
    (h : Cert.Pre_finite.fn (F := Ideal) q k v = fun _ => 1#1) :
    (∀ i, ∃ r : ℝ, q i = (r : EReal)) ∧ ∀ i, ∃ r : ℝ, k i = (r : EReal) := by
  have h0 := congrFun h (Shape.Idx.first Cert.Pre_finite.Facts.h_S_)
  unfold Cert.Pre_finite.fn at h0
  have two : ∀ a b : BitVec 1, IntOp.andi a b = 1#1 → a = 1#1 ∧ b = 1#1 := by decide
  obtain ⟨h1, h2⟩ := two _ _ h0
  exact ⟨fun i => real_of_lt _ (Host.reduce_andi_all _ _ _ _ _ h1 i), fun i => real_of_lt _ (Host.reduce_andi_all _ _ _ _ _ h2 i)⟩

/-- Two results agreeing at every head, row and column are equal. -/
theorem ext4 {α : Type} (x y : Cert.KernelIdeal.S1x16x2048x128.Idx → α)
    (h : ∀ (a : Fin 16) (b : Fin 2048) (c : Fin 128), x (ix4 0 a b c) = y (ix4 0 a b c)) : x = y := by
  funext i
  have hi : i = ix4 0 (i 1) (i 2) (i 3) := by
    funext a
    fin_cases a
    · exact Subsingleton.elim (α := Fin 1) _ _
    · rfl
    · rfl
    · rfl
  rw [hi]
  exact h _ _ _

/-- The value claim. -/
theorem algebraic : Cert.algebraic_KernelIdeal_ReferenceIdeal_pre_finite := by
  intro m g m' g' hpre hag
  refine ⟨fun c => Cert.KernelIdeal.Run.W5 m c (Proc.devRef .tc Cert.KernelIdeal.main_v11), ?_, ?_⟩
  · refine (θ_run Cert.KernelIdeal.defs _ _).mono (fun r h c => ?_) (Cert.KernelIdeal.Run.run_ends m g)
    obtain ⟨k0, k1, k2⟩ := Cert.KernelIdeal.Run.args_kept m c
    exact ⟨h.1 c _ (Cert.KernelIdeal.Run.mem_uc _ (by decide)), (h.1 c _ (Cert.KernelIdeal.Run.mem_uc _ (by decide))).trans k0,
      (h.1 c _ (Cert.KernelIdeal.Run.mem_uc _ (by decide))).trans k1, (h.1 c _ (Cert.KernelIdeal.Run.mem_uc _ (by decide))).trans k2⟩
  · refine (θ_run Cert.ReferenceIdeal.defs _ _).mono (fun r h c => ?_) (Cert.ReferenceIdeal.Stages.run m' g')
    refine ⟨(h c).1.trans ?_, (h c).2⟩
    obtain ⟨e0, e1, e2⟩ := hag c
    obtain ⟨rq, rk⟩ := real_of_finite _ _ _ (hpre c)
    have eq : Cert.ReferenceIdeal.Read.argOf (Cert.ReferenceIdeal.Read.Q (StableHlo.launchContents m' c)) = Cert.KernelIdeal.Read.argOf (Cert.KernelIdeal.Read.Q m c) :=
      funext fun h => funext fun a => funext fun b => congrFun e0 (ix4 0 h a b)
    have ek : Cert.ReferenceIdeal.Read.argOf (Cert.ReferenceIdeal.Read.K (StableHlo.launchContents m' c)) = Cert.KernelIdeal.Read.argOf (Cert.KernelIdeal.Read.K m c) :=
      funext fun h => funext fun a => funext fun b => congrFun e1 (ix4 0 h a b)
    have ex : Cert.ReferenceIdeal.Read.argOf (Cert.ReferenceIdeal.Read.X (StableHlo.launchContents m' c)) = Cert.KernelIdeal.Read.argOf (Cert.KernelIdeal.Read.X m c) :=
      funext fun h => funext fun a => funext fun b => congrFun e2 (ix4 0 h a b)
    have hq : Spec.IsReal (Cert.KernelIdeal.Read.argOf (Cert.KernelIdeal.Read.Q m c)) := fun h a b => rq (ix4 0 h a b)
    have hk : Spec.IsReal (Cert.KernelIdeal.Read.argOf (Cert.KernelIdeal.Read.K m c)) := fun h a b => rk (ix4 0 h a b)
    refine ext4 _ _ fun a b d => ?_
    refine (Cert.ReferenceIdeal.Read.attended_eq _ (eq ▸ hq) (ek ▸ hk) a b d).trans ?_
    rw [eq, ek, ex]
    exact (Cert.KernelIdeal.Read.v11_at m c hq hk a b d).symm

end Cert.Proof

end
-- ==== Proof.lean ====
/-
  The claim, assembled: each program's frame, the naming of the mask constant, and the equality of the results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.BitsRun
public import proofs.«01_k».proof.Proof.IdealRun
public import proofs.«01_k».proof.Proof.RefRun
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: it has no semaphore, so its counters are zero. -/
theorem refFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩)
    (Cert.ReferenceIdeal.Stages.run m ρ)

/-- The frames of the three programs, the name given to the mask constant, and the equality of the results. -/
theorem claim : Cert.Claim := ⟨Cert.Kernel.Gen.facts, Cert.KernelIdeal.Gen.facts, Cert.ReferenceIdeal.Gen.facts, Cert.Pre_finite.Gen.facts,
  fun m ρ _ => Cert.Kernel.Run.frame m ρ,
  fun m ρ _ => Cert.KernelIdeal.Run.frame m ρ,
  fun m ρ _ => Cert.KernelIdeal.Run.frame m ρ,
  fun m ρ _ => refFrame m ρ,
  fun m ρ _ => refFrame m ρ,
  IdealRules.named_const.statement Cert.KernelIdeal.κ "mask" .f32 0xF149F2CA#32 ⊥ rfl,
  algebraic⟩

end Cert.Proof

end
